-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_domain [hPre_domain : Cert.Pre_domain.Facts] (m : (ℓ : Loc Cert.KernelIdeal.nD Cert.KernelIdeal.τ Cert.KernelIdeal.sig) → Buf (Elt Ideal) ℓ) : Prop :=
  ∀ c : Dev Cert.KernelIdeal.nD,
    (Cert.Pre_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_domain [hPre_domain : Cert.Pre_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_domain [hKernelIdeal : Cert.KernelIdeal.Facts] [hPre_domain : Cert.Pre_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_domain m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_domain [hReferenceIdeal : Cert.ReferenceIdeal.Facts] [hPre_domain : Cert.Pre_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_domain m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_domain [hKernelIdeal : Cert.KernelIdeal.Facts] [hReferenceIdeal : Cert.ReferenceIdeal.Facts] [hPre_domain : Cert.Pre_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_domain m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_domain : Cert.Pre_domain.Facts),
    quiescent_Kernel (hKernel := hKernel)
    ∧ quiescent_KernelIdeal (hKernelIdeal := hKernelIdeal)
    ∧ quiescent_KernelIdeal_pre_domain (hKernelIdeal := hKernelIdeal) (hPre_domain := hPre_domain)
    ∧ quiescent_ReferenceIdeal (hReferenceIdeal := hReferenceIdeal)
    ∧ quiescent_ReferenceIdeal_pre_domain (hReferenceIdeal := hReferenceIdeal) (hPre_domain := hPre_domain)
    ∧ preserves_Kernel_KernelIdeal
    ∧ algebraic_KernelIdeal_ReferenceIdeal_pre_domain (hKernelIdeal := hKernelIdeal) (hReferenceIdeal := hReferenceIdeal) (hPre_domain := hPre_domain)
-- ==== Pre_domain.lean ====
abbrev S10000x256 : Shape := ⟨2, ![10000, 256]⟩
abbrev S10000x3 : Shape := ⟨2, ![10000, 3]⟩
abbrev S10000 : Shape := ⟨1, ![10000]⟩
abbrev S256x256 : Shape := ⟨2, ![256, 256]⟩
abbrev S256 : Shape := ⟨1, ![256]⟩
abbrev S_ : Shape := ⟨0, ![]⟩
abbrev S1 : Shape := ⟨1, ![1]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  slices_S10000_S1_0 : S10000.Slices ![0] S1
  bcast_S1_S10000_0 : S1.BroadcastsInDim S10000 (![0] : Fin 1 → Fin S10000.rank)
  reducesTo_S10000_S_d0 : S10000.ReducesTo [0] S_
  transposes_S256x256_S256x256_1_0 : S256x256.Transposes [1, 0] S256x256
  dot_S256x256_S256x256_S256x256_1_0_0_1_n_n_wf : DotDims.WF S256x256 S256x256 S256x256 [1] [0] [0] [1] [] []

variable [Facts]

def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def fn_where {F : FTy → Type} [FloatOps F] (arg0 : IVec S256x256 1) (arg1 : FVec F S_ .f32) (arg2 : FVec F S_ .f32) : FVec F S256x256 .f32 :=
  let v0 : FVec F S256x256 .f32 := broadcastInDim S256x256 ![] bcast_S_S256x256 arg1
  let v1 : FVec F S256x256 .f32 := broadcastInDim S256x256 ![] bcast_S_S256x256 arg2
  let v2 : FVec F S256x256 .f32 := select arg0 v0 v1
  v2

def fn_part2 {F : FTy → Type} [FloatOps F] (main_arg3 : IVec S10000 32) (main_arg10 : FVec F S256x256 .f32) (main_v28 : IVec S_ 1) (main_v32 : FVec F S256x256 .f32) (main_v33 : IVec S1 32) : IVec S_ 1 :=
  let main_v34 : IVec S10000 32 := broadcastInDim S10000 ![0] bcast_S1_S10000_0 main_v33
  let main_v35 : IVec S10000 1 := cmpi .eq main_arg3 main_v34
  let main_c_12 : IVec S_ 1 := constantI S_ 1 1#1
  let main_v36 : IVec S_ 1 := (fun x v => Host.reduce IntOp.andi x v reducesTo_S10000_S_d0 h_S_) main_v35 main_c_12
  let main_v37 : IVec S_ 1 := andi main_v28 main_v36
  let main_v38 : FVec F S256x256 .f32 := (transpose S256x256 [1, 0] · transposes_S256x256_S256x256_1_0) main_arg10
  let main_v39 : FVec F S256x256 .f32 := (fun l r => Host.dotGeneral dot_S256x256_S256x256_S256x256_1_0_0_1_n_n none l r) main_v38 main_arg10
  let main_v40 : IVec S256x256 1 := cmpf .oeq main_v39 main_v32
  let main_c_13 : IVec S_ 1 := constantI S_ 1 1#1
  let main_v41 : IVec S_ 1 := (fun x v => Host.reduce IntOp.andi x v reducesTo_S256x256_S_d0_1 h_S_) main_v40 main_c_13
  let main_v42 : IVec S_ 1 := andi main_v37 main_v41
  main_v42

def fn_part1 {F : FTy → Type} [FloatOps F] (main_arg3 : IVec S10000 32) (main_arg5 : FVec F S256 .f32) (main_arg8 : FVec F S256 .f32) (main_arg10 : FVec F S256x256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg8
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : IVec S256x256 32 := iotaInDim S256x256 32 0
  let main_v30 : IVec S256x256 32 := iotaInDim S256x256 32 1
  let main_v31 : IVec S256x256 1 := cmpi .eq main_v29 main_v30
  let main_cst_10 : FVec F S_ .f32 := constant S_ .f32 0x3F800000#32
  let main_cst_11 : FVec F S_ .f32 := constant S_ .f32 0x00000000#32
  let main_v32 : FVec F S256x256 .f32 := fn_where (F := F) main_v31 main_cst_10 main_cst_11
  let main_v33 : IVec S1 32 := (extractStridedSlice S1 ![0] · slices_S10000_S1_0) main_arg3
  fn_part2 (F := F) main_arg3 main_arg10 main_v28 main_v32 main_v33

def fn {F : FTy → Type} [FloatOps F] (main_arg0 : FVec F S10000x256 .f32) (main_arg1 : FVec F S10000x256 .f32) (main_arg2 : FVec F S10000x3 .f32) (main_arg3 : IVec S10000 32) (main_arg4 : FVec F S256x256 .f32) (main_arg5 : FVec F S256 .f32) (main_arg6 : FVec F S256 .f32) (main_arg7 : FVec F S256x256 .f32) (main_arg8 : FVec F S256 .f32) (main_arg9 : FVec F S256 .f32) (main_arg10 : FVec F S256x256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x256 .f32 := Host.absf main_arg1
  let main_cst_0 : FVec F S_ .f32 := constant S_ .f32 0x7F800000#32
  let main_v5 : FVec F S10000x256 .f32 := broadcastInDim S10000x256 ![] bcast_S_S10000x256 main_cst_0
  let main_v6 : IVec S10000x256 1 := cmpf .olt main_v4 main_v5
  let main_c_1 : IVec S_ 1 := constantI S_ 1 1#1
  let main_v7 : IVec S_ 1 := (fun x v => Host.reduce IntOp.andi x v reducesTo_S10000x256_S_d0_1 h_S_) main_v6 main_c_1
  let main_v8 : IVec S_ 1 := andi main_v3 main_v7
  let main_v9 : FVec F S256x256 .f32 := Host.absf main_arg4
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg7
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg3 main_arg5 main_arg8 main_arg10 main_v13 main_v16
-- ==== Kernel.lean ====
abbrev S10000x256 : Shape := ⟨2, ![10000, 256]⟩
abbrev S10000x3 : Shape := ⟨2, ![10000, 3]⟩
abbrev S10000 : Shape := ⟨1, ![10000]⟩
abbrev S256x256 : Shape := ⟨2, ![256, 256]⟩
abbrev S256 : Shape := ⟨1, ![256]⟩
abbrev S4x256 : Shape := ⟨2, ![4, 256]⟩
abbrev S400x256 : Shape := ⟨2, ![400, 256]⟩
abbrev S1x256 : Shape := ⟨2, ![1, 256]⟩
abbrev S_ : Shape := ⟨0, ![]⟩
abbrev S10000x1 : Shape := ⟨2, ![10000, 1]⟩
abbrev S10000x4 : Shape := ⟨2, ![10000, 4]⟩
abbrev S4x10000 : Shape := ⟨2, ![4, 10000]⟩
abbrev S10000x16 : Shape := ⟨2, ![10000, 16]⟩
abbrev S400x4 : Shape := ⟨2, ![400, 4]⟩
abbrev S400x16 : Shape := ⟨2, ![400, 16]⟩
abbrev S400x3 : Shape := ⟨2, ![400, 3]⟩
abbrev S400x1 : Shape := ⟨2, ![400, 1]⟩
abbrev S4x2000 : Shape := ⟨2, ![4, 2000]⟩
abbrev S1x2000 : Shape := ⟨2, ![1, 2000]⟩
abbrev S3x2000 : Shape := ⟨2, ![3, 2000]⟩
abbrev S400x2000 : Shape := ⟨2, ![400, 2000]⟩
abbrev S400x2016 : Shape := ⟨2, ![400, 2016]⟩
abbrev S400 : Shape := ⟨1, ![400]⟩
abbrev S10000x16x1 : Shape := ⟨3, ![10000, 16, 1]⟩
abbrev S10000x16x256 : Shape := ⟨3, ![10000, 16, 256]⟩
abbrev S10000x1x256 : Shape := ⟨3, ![10000, 1, 256]⟩

abbrev nBuf : Space → Nat
  | .hbm => 148
  | .vmem => 27
  | .smem => 0
  | _ => 0

abbrev hbmTy0_0 (i : Nat) : BufTy := match i % 128 with
  | 0 => ⟨S10000x256, .f32⟩
  | 1 => ⟨S10000x256, .f32⟩
  | 2 => ⟨S10000x3, .f32⟩
  | 3 => ⟨S10000, .i32⟩
  | 4 => ⟨S256x256, .f32⟩
  | 5 => ⟨S256, .f32⟩
  | 6 => ⟨S256, .f32⟩
  | 7 => ⟨S256x256, .f32⟩
  | 8 => ⟨S256, .f32⟩
  | 9 => ⟨S256, .f32⟩
  | 10 => ⟨S256x256, .f32⟩
  | 11 => ⟨S256x256, .f32⟩
  | 12 => ⟨S256x256, .f32⟩
  | 13 => ⟨S10000x256, .f32⟩
  | 14 => ⟨S10000x256, .f32⟩
  | 15 => ⟨S4x256, .f32⟩
  | 16 => ⟨S1x256, .f32⟩
  | 17 => ⟨S256, .f32⟩
  | 18 => ⟨S_, .f32⟩
  | 19 => ⟨S256, .f32⟩
  | 20 => ⟨S256, .f32⟩
  | 21 => ⟨S1x256, .f32⟩
  | 22 => ⟨S256, .f32⟩
  | 23 => ⟨S_, .f32⟩
  | 24 => ⟨S256, .f32⟩
  | 25 => ⟨S256, .f32⟩
  | 26 => ⟨S256, .f32⟩
  | 27 => ⟨S256, .f32⟩
  | 28 => ⟨S1x256, .f32⟩
  | 29 => ⟨S256, .f32⟩
  | 30 => ⟨S_, .f32⟩
  | 31 => ⟨S256, .f32⟩
  | 32 => ⟨S256, .f32⟩
  | 33 => ⟨S1x256, .f32⟩
  | 34 => ⟨S256, .f32⟩
  | 35 => ⟨S_, .f32⟩
  | 36 => ⟨S256, .f32⟩
  | 37 => ⟨S256, .f32⟩
  | 38 => ⟨S256, .f32⟩
  | 39 => ⟨S256, .f32⟩
  | 40 => ⟨S_, .f32⟩
  | 41 => ⟨S256, .f32⟩
  | 42 => ⟨S256, .f32⟩
  | 43 => ⟨S256, .f32⟩
  | 44 => ⟨S256, .f32⟩
  | 45 => ⟨S_, .f32⟩
  | 46 => ⟨S256, .f32⟩
  | 47 => ⟨S256, .f32⟩
  | 48 => ⟨S256, .f32⟩
  | 49 => ⟨S256, .f32⟩
  | 50 => ⟨S256, .f32⟩
  | 51 => ⟨S256, .f32⟩
  | 52 => ⟨S256, .f32⟩
  | 53 => ⟨S256, .f32⟩
  | 54 => ⟨S1x256, .f32⟩
  | 55 => ⟨S1x256, .f32⟩
  | 56 => ⟨S1x256, .f32⟩
  | 57 => ⟨S1x256, .f32⟩
  | 58 => ⟨S4x256, .f32⟩
  | 59 => ⟨S10000x256, .f32⟩
  | 60 => ⟨S10000x256, .f32⟩
  | 61 => ⟨S10000x3, .f32⟩
  | 62 => ⟨S_, .f32⟩
  | 63 => ⟨S10000, .f32⟩
  | 64 => ⟨S10000x1, .f32⟩
  | 65 => ⟨S10000x4, .f32⟩
  | 66 => ⟨S4x10000, .f32⟩
  | 67 => ⟨S10000x16, .i32⟩
  | 68 => ⟨S10000x16, .i32⟩
  | 69 => ⟨S_, .i32⟩
  | 70 => ⟨S10000x16, .i32⟩
  | 71 => ⟨S10000x16, .i1⟩
  | 72 => ⟨S_, .i32⟩
  | 73 => ⟨S10000x16, .i32⟩
  | 74 => ⟨S10000x16, .i32⟩
  | 75 => ⟨S10000x16, .i32⟩
  | 76 => ⟨S10000x16x1, .i32⟩
  | 77 => ⟨S10000x16x256, .f32⟩
  | 78 => ⟨S10000x1x256, .f32⟩
  | 79 => ⟨S10000x16x256, .f32⟩
  | 80 => ⟨S10000x16x256, .f32⟩
  | 81 => ⟨S10000x16x256, .f32⟩
  | 82 => ⟨S_, .f32⟩
  | 83 => ⟨S10000x16, .f32⟩
  | 84 => ⟨S_, .i32⟩
  | 85 => ⟨S10000x16, .i32⟩
  | 86 => ⟨S10000x16, .i1⟩
  | 87 => ⟨S10000x16, .i1⟩
  | 88 => ⟨S10000x16, .f32⟩
  | 89 => ⟨S_, .f32⟩
  | 90 => ⟨S_, .f32⟩
  | 91 => ⟨S10000x16, .f32⟩
  | 92 => ⟨S10000x16, .f32⟩
  | 93 => ⟨S_, .f32⟩
  | 94 => ⟨S10000, .f32⟩
  | 95 => ⟨S10000x1, .f32⟩
  | 96 => ⟨S10000x1, .f32⟩
  | 97 => ⟨S_, .f32⟩
  | 98 => ⟨S10000x1, .f32⟩
  | 99 => ⟨S10000x1, .i1⟩
  | 100 => ⟨S_, .f32⟩
  | 101 => ⟨S_, .f32⟩
  | 102 => ⟨S10000x1, .f32⟩
  | 103 => ⟨S10000x1, .f32⟩
  | 104 => ⟨S10000x16, .f32⟩
  | 105 => ⟨S10000x16, .f32⟩
  | 106 => ⟨S10000x16, .f32⟩
  | 107 => ⟨S_, .f32⟩
  | 108 => ⟨S_, .f32⟩
  | 109 => ⟨S10000x16, .f32⟩
  | 110 => ⟨S10000x16, .f32⟩
  | 111 => ⟨S_, .f32⟩
  | 112 => ⟨S10000, .f32⟩
  | 113 => ⟨S10000x1, .f32⟩
  | 114 => ⟨S_, .f32⟩
  | 115 => ⟨S10000x1, .f32⟩
  | 116 => ⟨S10000x1, .i1⟩
  | 117 => ⟨S_, .f32⟩
  | 118 => ⟨S_, .f32⟩
  | 119 => ⟨S10000x1, .f32⟩
  | 120 => ⟨S10000x1, .f32⟩
  | 121 => ⟨S10000x16, .f32⟩
  | 122 => ⟨S10000x16, .f32⟩
  | 123 => ⟨S_, .i32⟩
  | 124 => ⟨S10000x16, .i32⟩
  | 125 => ⟨S10000x16, .i1⟩
  | 126 => ⟨S_, .i32⟩
  | 127 => ⟨S10000x16, .i32⟩
  | _ => ⟨S10000x256, .f32⟩

abbrev hbmTy0_1 (i : Nat) : BufTy := match i % 128 with
  | 0 => ⟨S10000x16, .i32⟩
  | 1 => ⟨S10000x16, .i32⟩
  | 2 => ⟨S10000x16x1, .i32⟩
  | 3 => ⟨S10000x16x256, .f32⟩
  | 4 => ⟨S10000x16x1, .f32⟩
  | 5 => ⟨S10000x16x256, .f32⟩
  | 6 => ⟨S10000x16x256, .f32⟩
  | 7 => ⟨S_, .f32⟩
  | 8 => ⟨S10000x256, .f32⟩
  | 9 => ⟨S10000x256, .f32⟩
  | 10 => ⟨S_, .f32⟩
  | 11 => ⟨S10000x256, .f32⟩
  | 12 => ⟨S10000x256, .f32⟩
  | 13 => ⟨S_, .f32⟩
  | 14 => ⟨S10000x256, .f32⟩
  | 15 => ⟨S10000x256, .i1⟩
  | 16 => ⟨S_, .f32⟩
  | 17 => ⟨S10000x256, .f32⟩
  | 18 => ⟨S10000x256, .f32⟩
  | 19 => ⟨S10000x256, .f32⟩
  | _ => ⟨S10000x256, .f32⟩

abbrev hbmTy (i : Nat) : BufTy := match i / 128 with
  | 0 => hbmTy0_0 i
  | 1 => hbmTy0_1 i
  | _ => ⟨S10000x256, .f32⟩

abbrev bufTy : (tb : Table) → Fin (tcTables nBuf tb) → BufTy
  | .hbm, ⟨i, _⟩ => hbmTy i
  | .local _ .vmem, ⟨0, _⟩ => ⟨S400x256, .f32⟩
  | .local _ .vmem, ⟨1, _⟩ => ⟨S400x256, .f32⟩
  | .local _ .vmem, ⟨2, _⟩ => ⟨S400x256, .f32⟩
  | .local _ .vmem, ⟨3, _⟩ => ⟨S400x256, .f32⟩
  | .local _ .vmem, ⟨4, _⟩ => ⟨S256x256, .f32⟩
  | .local _ .vmem, ⟨5, _⟩ => ⟨S256x256, .f32⟩
  | .local _ .vmem, ⟨6, _⟩ => ⟨S400x256, .f32⟩
  | .local _ .vmem, ⟨7, _⟩ => ⟨S400x256, .f32⟩
  | .local _ .vmem, ⟨8, _⟩ => ⟨S400x256, .f32⟩
  | .local _ .vmem, ⟨9, _⟩ => ⟨S400x256, .f32⟩
  | .local _ .vmem, ⟨10, _⟩ => ⟨S4x256, .f32⟩
  | .local _ .vmem, ⟨11, _⟩ => ⟨S400x256, .f32⟩
  | .local _ .vmem, ⟨12, _⟩ => ⟨S400x256, .f32⟩
  | .local _ .vmem, ⟨13, _⟩ => ⟨S400x256, .f32⟩
  | .local _ .vmem, ⟨14, _⟩ => ⟨S400x256, .f32⟩
  | .local _ .vmem, ⟨15, _⟩ => ⟨S4x256, .f32⟩
  | .local _ .vmem, ⟨16, _⟩ => ⟨S400x256, .f32⟩
  | .local _ .vmem, ⟨17, _⟩ => ⟨S400x256, .f32⟩
  | .local _ .vmem, ⟨18, _⟩ => ⟨S400x256, .f32⟩
  | .local _ .vmem, ⟨19, _⟩ => ⟨S400x256, .f32⟩
  | .local _ .vmem, ⟨20, _⟩ => ⟨S400x4, .f32⟩
  | .local _ .vmem, ⟨21, _⟩ => ⟨S400x4, .f32⟩
  | .local _ .vmem, ⟨22, _⟩ => ⟨S4x10000, .f32⟩
  | .local _ .vmem, ⟨23, _⟩ => ⟨S400x16, .i32⟩
  | .local _ .vmem, ⟨24, _⟩ => ⟨S400x16, .i32⟩
  | .local _ .vmem, ⟨25, _⟩ => ⟨S400x16, .i32⟩
  | .local _ .vmem, ⟨26, _⟩ => ⟨S400x16, .i32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2_0 : Ref sig .tc := ⟨.hbm, 13, rfl⟩
abbrev main_v2_1 : Ref sig .tc := ⟨.hbm, 14, rfl⟩
abbrev main_v2_2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_4 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40_0 : Ref sig .tc := ⟨.hbm, 59, rfl⟩
abbrev main_v40_1 : Ref sig .tc := ⟨.hbm, 60, rfl⟩
abbrev main_v41 : Ref sig .tc := ⟨.hbm, 61, rfl⟩
abbrev main_cst_5 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46_0 : Ref sig .tc := ⟨.hbm, 67, rfl⟩
abbrev main_v46_1 : Ref sig .tc := ⟨.hbm, 68, rfl⟩
abbrev main_c : Ref sig .tc := ⟨.hbm, 69, rfl⟩
abbrev main_v47 : Ref sig .tc := ⟨.hbm, 70, rfl⟩
abbrev main_v48 : Ref sig .tc := ⟨.hbm, 71, rfl⟩
abbrev main_c_6 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_7 : Ref sig .tc := ⟨.hbm, 82, rfl⟩
abbrev main_v58 : Ref sig .tc := ⟨.hbm, 83, rfl⟩
abbrev main_c_8 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_9 : Ref sig .tc := ⟨.hbm, 89, rfl⟩
abbrev main_call0_v0 : Ref sig .tc := ⟨.hbm, 90, rfl⟩
abbrev main_call0_v1 : Ref sig .tc := ⟨.hbm, 91, rfl⟩
abbrev main_v63 : Ref sig .tc := ⟨.hbm, 92, rfl⟩
abbrev main_cst_10 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_11 : Ref sig .tc := ⟨.hbm, 97, rfl⟩
abbrev main_v67 : Ref sig .tc := ⟨.hbm, 98, rfl⟩
abbrev main_v68 : Ref sig .tc := ⟨.hbm, 99, rfl⟩
abbrev main_cst_12 : Ref sig .tc := ⟨.hbm, 100, rfl⟩
abbrev main_call1_v0 : Ref sig .tc := ⟨.hbm, 101, rfl⟩
abbrev main_call1_v1 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_cst_13 : Ref sig .tc := ⟨.hbm, 107, rfl⟩
abbrev main_call2_v0 : Ref sig .tc := ⟨.hbm, 108, rfl⟩
abbrev main_call2_v1 : Ref sig .tc := ⟨.hbm, 109, rfl⟩
abbrev main_v73 : Ref sig .tc := ⟨.hbm, 110, rfl⟩
abbrev main_cst_14 : Ref sig .tc := ⟨.hbm, 111, rfl⟩
abbrev main_v74 : Ref sig .tc := ⟨.hbm, 112, rfl⟩
abbrev main_v75 : Ref sig .tc := ⟨.hbm, 113, rfl⟩
abbrev main_cst_15 : Ref sig .tc := ⟨.hbm, 114, rfl⟩
abbrev main_v76 : Ref sig .tc := ⟨.hbm, 115, rfl⟩
abbrev main_v77 : Ref sig .tc := ⟨.hbm, 116, rfl⟩
abbrev main_cst_16 : Ref sig .tc := ⟨.hbm, 117, rfl⟩
abbrev main_call3_v0 : Ref sig .tc := ⟨.hbm, 118, rfl⟩
abbrev main_call3_v1 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_c_17 : Ref sig .tc := ⟨.hbm, 123, rfl⟩
abbrev main_v81 : Ref sig .tc := ⟨.hbm, 124, rfl⟩
abbrev main_v82 : Ref sig .tc := ⟨.hbm, 125, rfl⟩
abbrev main_c_18 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_cst_19 : Ref sig .tc := ⟨.hbm, 135, rfl⟩
abbrev main_v91 : Ref sig .tc := ⟨.hbm, 136, rfl⟩
abbrev main_v92 : Ref sig .tc := ⟨.hbm, 137, rfl⟩
abbrev main_cst_20 : Ref sig .tc := ⟨.hbm, 138, rfl⟩
abbrev main_v93 : Ref sig .tc := ⟨.hbm, 139, rfl⟩
abbrev main_v94 : Ref sig .tc := ⟨.hbm, 140, rfl⟩
abbrev main_cst_21 : Ref sig .tc := ⟨.hbm, 141, rfl⟩
abbrev main_v95 : Ref sig .tc := ⟨.hbm, 142, rfl⟩
abbrev main_v96 : Ref sig .tc := ⟨.hbm, 143, rfl⟩
abbrev main_cst_22 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg3_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem3_1 : DmaSem sig := 17
abbrev cc1_sem4_0 : DmaSem sig := 18
abbrev cc1_sem4_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem2_1 : DmaSem sig := 24
abbrev cc2_sem3_0 : DmaSem sig := 25
abbrev cc2_sem3_1 : DmaSem sig := 26

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S400x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S400x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S400x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S400x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S400x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

@[reducible] def k2_t1_loop : Scf.Loop 32 :=
  let c0_i32_8 : BitVec 32 := 0#32
  let c16_i32 : BitVec 32 := 16#32
  let v37 : BitVec 32 := Scalar.addi c0_i32_8 c16_i32
  let c1_i32 : BitVec 32 := 1#32
  ⟨c0_i32_8, v37, c1_i32⟩
@[reducible] def k2_t2_loop : Scf.Loop 32 :=
  let c0_i32_17 : BitVec 32 := 0#32
  let c16_i32_18 : BitVec 32 := 16#32
  let v64 : BitVec 32 := Scalar.addi c0_i32_17 c16_i32_18
  let c1_i32_19 : BitVec 32 := 1#32
  ⟨c0_i32_17, v64, c1_i32_19⟩
@[reducible] def k2_t3_loop : Scf.Loop 32 :=
  let c0_i32_28 : BitVec 32 := 0#32
  let c16_i32_29 : BitVec 32 := 16#32
  let v91 : BitVec 32 := Scalar.addi c0_i32_28 c16_i32_29
  let c1_i32_30 : BitVec 32 := 1#32
  ⟨c0_i32_28, v91, c1_i32_30⟩
@[reducible] def k2_t4_loop : Scf.Loop 32 :=
  let c0_i32_39 : BitVec 32 := 0#32
  let c16_i32_40 : BitVec 32 := 16#32
  let v118 : BitVec 32 := Scalar.addi c0_i32_39 c16_i32_40
  let c1_i32_41 : BitVec 32 := 1#32
  ⟨c0_i32_39, v118, c1_i32_41⟩
@[reducible] def k2_t5_loop : Scf.Loop 32 :=
  let c0_i32_50 : BitVec 32 := 0#32
  let c16_i32_51 : BitVec 32 := 16#32
  let v145 : BitVec 32 := Scalar.addi c0_i32_50 c16_i32_51
  let c1_i32_52 : BitVec 32 := 1#32
  ⟨c0_i32_50, v145, c1_i32_52⟩
def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x4 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4x10000 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x16 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S400x16 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]
-- ==== ReferenceIdeal.lean ====
abbrev S10000x256 : Shape := ⟨2, ![10000, 256]⟩
abbrev S10000x3 : Shape := ⟨2, ![10000, 3]⟩
abbrev S10000 : Shape := ⟨1, ![10000]⟩
abbrev S256x256 : Shape := ⟨2, ![256, 256]⟩
abbrev S256 : Shape := ⟨1, ![256]⟩
abbrev S_ : Shape := ⟨0, ![]⟩
abbrev S10000x1 : Shape := ⟨2, ![10000, 1]⟩
abbrev S1x10000 : Shape := ⟨2, ![1, 10000]⟩
abbrev S10000x10000 : Shape := ⟨2, ![10000, 10000]⟩
abbrev S3x10000 : Shape := ⟨2, ![3, 10000]⟩
abbrev S10000x16 : Shape := ⟨2, ![10000, 16]⟩
abbrev S1x256 : Shape := ⟨2, ![1, 256]⟩
abbrev S10000x16x1 : Shape := ⟨3, ![10000, 16, 1]⟩
abbrev S10000x16x256 : Shape := ⟨3, ![10000, 16, 256]⟩
abbrev S10000x1x256 : Shape := ⟨3, ![10000, 1, 256]⟩
abbrev S256x1 : Shape := ⟨2, ![256, 1]⟩
abbrev S1x1 : Shape := ⟨2, ![1, 1]⟩

abbrev nBuf : Space → Nat
  | .hbm => 285
  | .vmem => 0
  | .smem => 0
  | _ => 0

abbrev hbmTy0_0 (i : Nat) : BufTy := match i % 128 with
  | 0 => ⟨S10000x256, .f32⟩
  | 1 => ⟨S10000x256, .f32⟩
  | 2 => ⟨S10000x3, .f32⟩
  | 3 => ⟨S10000, .i32⟩
  | 4 => ⟨S256x256, .f32⟩
  | 5 => ⟨S256, .f32⟩
  | 6 => ⟨S256, .f32⟩
  | 7 => ⟨S256x256, .f32⟩
  | 8 => ⟨S256, .f32⟩
  | 9 => ⟨S256, .f32⟩
  | 10 => ⟨S256x256, .f32⟩
  | 11 => ⟨S10000x3, .f32⟩
  | 12 => ⟨S_, .f32⟩
  | 13 => ⟨S10000, .f32⟩
  | 14 => ⟨S10000, .i32⟩
  | 15 => ⟨S10000x1, .f32⟩
  | 16 => ⟨S1x10000, .f32⟩
  | 17 => ⟨S10000x10000, .f32⟩
  | 18 => ⟨S10000x10000, .f32⟩
  | 19 => ⟨S10000x10000, .f32⟩
  | 20 => ⟨S3x10000, .f32⟩
  | 21 => ⟨S10000x10000, .f32⟩
  | 22 => ⟨S_, .f32⟩
  | 23 => ⟨S10000x10000, .f32⟩
  | 24 => ⟨S10000x10000, .f32⟩
  | 25 => ⟨S10000x10000, .f32⟩
  | 26 => ⟨S_, .f32⟩
  | 27 => ⟨S10000x10000, .f32⟩
  | 28 => ⟨S10000x10000, .f32⟩
  | 29 => ⟨S10000x1, .i32⟩
  | 30 => ⟨S1x10000, .i32⟩
  | 31 => ⟨S10000x10000, .i32⟩
  | 32 => ⟨S10000x10000, .i32⟩
  | 33 => ⟨S10000x10000, .i1⟩
  | 34 => ⟨S10000x1, .i32⟩
  | 35 => ⟨S1x10000, .i32⟩
  | 36 => ⟨S10000x10000, .i32⟩
  | 37 => ⟨S10000x10000, .i32⟩
  | 38 => ⟨S10000x10000, .i1⟩
  | 39 => ⟨S10000x10000, .i1⟩
  | 40 => ⟨S_, .f32⟩
  | 41 => ⟨S_, .f32⟩
  | 42 => ⟨S10000x10000, .f32⟩
  | 43 => ⟨S10000x10000, .f32⟩
  | 44 => ⟨S10000x10000, .f32⟩
  | 45 => ⟨S10000x16, .f32⟩
  | 46 => ⟨S10000x16, .i32⟩
  | 47 => ⟨S_, .f32⟩
  | 48 => ⟨S10000x16, .f32⟩
  | 49 => ⟨S10000x16, .i1⟩
  | 50 => ⟨S256x256, .f32⟩
  | 51 => ⟨S10000x256, .f32⟩
  | 52 => ⟨S_, .f32⟩
  | 53 => ⟨S256, .f32⟩
  | 54 => ⟨S_, .f32⟩
  | 55 => ⟨S256, .f32⟩
  | 56 => ⟨S256, .f32⟩
  | 57 => ⟨S1x256, .f32⟩
  | 58 => ⟨S10000x256, .f32⟩
  | 59 => ⟨S10000x256, .f32⟩
  | 60 => ⟨S10000x256, .f32⟩
  | 61 => ⟨S_, .f32⟩
  | 62 => ⟨S256, .f32⟩
  | 63 => ⟨S_, .f32⟩
  | 64 => ⟨S256, .f32⟩
  | 65 => ⟨S256, .f32⟩
  | 66 => ⟨S1x256, .f32⟩
  | 67 => ⟨S10000x256, .f32⟩
  | 68 => ⟨S10000x256, .f32⟩
  | 69 => ⟨S_, .f32⟩
  | 70 => ⟨S256, .f32⟩
  | 71 => ⟨S256, .f32⟩
  | 72 => ⟨S256, .f32⟩
  | 73 => ⟨S1x256, .f32⟩
  | 74 => ⟨S10000x256, .f32⟩
  | 75 => ⟨S10000x256, .f32⟩
  | 76 => ⟨S1x256, .f32⟩
  | 77 => ⟨S10000x256, .f32⟩
  | 78 => ⟨S10000x256, .f32⟩
  | 79 => ⟨S1x256, .f32⟩
  | 80 => ⟨S10000x256, .f32⟩
  | 81 => ⟨S10000x256, .f32⟩
  | 82 => ⟨S256x256, .f32⟩
  | 83 => ⟨S10000x256, .f32⟩
  | 84 => ⟨S_, .f32⟩
  | 85 => ⟨S256, .f32⟩
  | 86 => ⟨S_, .f32⟩
  | 87 => ⟨S256, .f32⟩
  | 88 => ⟨S256, .f32⟩
  | 89 => ⟨S1x256, .f32⟩
  | 90 => ⟨S10000x256, .f32⟩
  | 91 => ⟨S10000x256, .f32⟩
  | 92 => ⟨S10000x256, .f32⟩
  | 93 => ⟨S_, .f32⟩
  | 94 => ⟨S256, .f32⟩
  | 95 => ⟨S_, .f32⟩
  | 96 => ⟨S256, .f32⟩
  | 97 => ⟨S256, .f32⟩
  | 98 => ⟨S1x256, .f32⟩
  | 99 => ⟨S10000x256, .f32⟩
  | 100 => ⟨S10000x256, .f32⟩
  | 101 => ⟨S_, .f32⟩
  | 102 => ⟨S256, .f32⟩
  | 103 => ⟨S256, .f32⟩
  | 104 => ⟨S256, .f32⟩
  | 105 => ⟨S1x256, .f32⟩
  | 106 => ⟨S10000x256, .f32⟩
  | 107 => ⟨S10000x256, .f32⟩
  | 108 => ⟨S1x256, .f32⟩
  | 109 => ⟨S10000x256, .f32⟩
  | 110 => ⟨S10000x256, .f32⟩
  | 111 => ⟨S1x256, .f32⟩
  | 112 => ⟨S10000x256, .f32⟩
  | 113 => ⟨S10000x256, .f32⟩
  | 114 => ⟨S_, .f32⟩
  | 115 => ⟨S10000x256, .f32⟩
  | 116 => ⟨S10000x256, .i1⟩
  | 117 => ⟨S_, .f32⟩
  | 118 => ⟨S10000x256, .f32⟩
  | 119 => ⟨S10000x256, .f32⟩
  | 120 => ⟨S10000x256, .f32⟩
  | 121 => ⟨S_, .i32⟩
  | 122 => ⟨S10000x16, .i32⟩
  | 123 => ⟨S10000x16, .i1⟩
  | 124 => ⟨S_, .i32⟩
  | 125 => ⟨S10000x16, .i32⟩
  | 126 => ⟨S10000x16, .i32⟩
  | 127 => ⟨S10000x16, .i32⟩
  | _ => ⟨S10000x256, .f32⟩

abbrev hbmTy0_1 (i : Nat) : BufTy := match i % 128 with
  | 0 => ⟨S10000x16x1, .i32⟩
  | 1 => ⟨S10000x16x256, .f32⟩
  | 2 => ⟨S10000x1x256, .f32⟩
  | 3 => ⟨S10000x16x256, .f32⟩
  | 4 => ⟨S10000x16x256, .f32⟩
  | 5 => ⟨S10000x16x256, .f32⟩
  | 6 => ⟨S_, .f32⟩
  | 7 => ⟨S10000x16, .f32⟩
  | 8 => ⟨S10000x16, .f32⟩
  | 9 => ⟨S_, .f32⟩
  | 10 => ⟨S_, .f32⟩
  | 11 => ⟨S10000x16, .f32⟩
  | 12 => ⟨S10000x16, .f32⟩
  | 13 => ⟨S_, .f32⟩
  | 14 => ⟨S10000, .f32⟩
  | 15 => ⟨S10000x1, .f32⟩
  | 16 => ⟨S10000x1, .f32⟩
  | 17 => ⟨S_, .f32⟩
  | 18 => ⟨S10000x1, .f32⟩
  | 19 => ⟨S10000x1, .i1⟩
  | 20 => ⟨S_, .f32⟩
  | 21 => ⟨S_, .f32⟩
  | 22 => ⟨S10000x1, .f32⟩
  | 23 => ⟨S10000x1, .f32⟩
  | 24 => ⟨S10000x16, .f32⟩
  | 25 => ⟨S10000x16, .f32⟩
  | 26 => ⟨S10000x16, .f32⟩
  | 27 => ⟨S_, .f32⟩
  | 28 => ⟨S_, .f32⟩
  | 29 => ⟨S10000x16, .f32⟩
  | 30 => ⟨S10000x16, .f32⟩
  | 31 => ⟨S_, .f32⟩
  | 32 => ⟨S10000, .f32⟩
  | 33 => ⟨S10000x1, .f32⟩
  | 34 => ⟨S_, .f32⟩
  | 35 => ⟨S10000x1, .f32⟩
  | 36 => ⟨S10000x1, .i1⟩
  | 37 => ⟨S_, .f32⟩
  | 38 => ⟨S_, .f32⟩
  | 39 => ⟨S10000x1, .f32⟩
  | 40 => ⟨S10000x1, .f32⟩
  | 41 => ⟨S10000x16, .f32⟩
  | 42 => ⟨S10000x16, .f32⟩
  | 43 => ⟨S256x256, .f32⟩
  | 44 => ⟨S256x256, .f32⟩
  | 45 => ⟨S256x256, .i32⟩
  | 46 => ⟨S256x256, .i32⟩
  | 47 => ⟨S_, .i32⟩
  | 48 => ⟨S256x256, .i32⟩
  | 49 => ⟨S256x256, .i32⟩
  | 50 => ⟨S256x256, .i1⟩
  | 51 => ⟨S256x256, .f32⟩
  | 52 => ⟨S256x256, .f32⟩
  | 53 => ⟨S256x1, .i32⟩
  | 54 => ⟨S1x256, .i32⟩
  | 55 => ⟨S256x256, .i32⟩
  | 56 => ⟨S256x256, .i32⟩
  | 57 => ⟨S256x256, .i1⟩
  | 58 => ⟨S256x256, .f32⟩
  | 59 => ⟨S_, .i32⟩
  | 60 => ⟨S_, .i32⟩
  | 61 => ⟨S256x1, .i32⟩
  | 62 => ⟨S_, .i32⟩
  | 63 => ⟨S_, .i32⟩
  | 64 => ⟨S256x256, .f32⟩
  | 65 => ⟨S256x256, .f32⟩
  | 66 => ⟨S_, .i32⟩
  | 67 => ⟨S_, .i1⟩
  | 68 => ⟨S_, .i32⟩
  | 69 => ⟨S_, .i32⟩
  | 70 => ⟨S_, .i32⟩
  | 71 => ⟨S_, .i1⟩
  | 72 => ⟨S_, .i32⟩
  | 73 => ⟨S_, .i32⟩
  | 74 => ⟨S_, .i32⟩
  | 75 => ⟨S_, .i32⟩
  | 76 => ⟨S_, .i32⟩
  | 77 => ⟨S1x256, .f32⟩
  | 78 => ⟨S_, .i32⟩
  | 79 => ⟨S_, .i1⟩
  | 80 => ⟨S_, .i32⟩
  | 81 => ⟨S_, .i32⟩
  | 82 => ⟨S_, .i32⟩
  | 83 => ⟨S_, .i32⟩
  | 84 => ⟨S_, .i32⟩
  | 85 => ⟨S1x256, .f32⟩
  | 86 => ⟨S_, .i32⟩
  | 87 => ⟨S_, .i1⟩
  | 88 => ⟨S_, .i32⟩
  | 89 => ⟨S_, .i32⟩
  | 90 => ⟨S_, .i32⟩
  | 91 => ⟨S_, .i32⟩
  | 92 => ⟨S_, .i32⟩
  | 93 => ⟨S_, .i1⟩
  | 94 => ⟨S_, .i32⟩
  | 95 => ⟨S_, .i32⟩
  | 96 => ⟨S_, .i32⟩
  | 97 => ⟨S_, .i32⟩
  | 98 => ⟨S1x1, .f32⟩
  | 99 => ⟨S_, .i32⟩
  | 100 => ⟨S_, .i1⟩
  | 101 => ⟨S_, .i32⟩
  | 102 => ⟨S_, .i32⟩
  | 103 => ⟨S_, .i32⟩
  | 104 => ⟨S_, .i32⟩
  | 105 => ⟨S_, .i32⟩
  | 106 => ⟨S256x1, .f32⟩
  | 107 => ⟨S1x256, .f32⟩
  | 108 => ⟨S1x256, .f32⟩
  | 109 => ⟨S1x256, .f32⟩
  | 110 => ⟨S1x256, .f32⟩
  | 111 => ⟨S_, .i32⟩
  | 112 => ⟨S256x1, .i32⟩
  | 113 => ⟨S256x1, .i1⟩
  | 114 => ⟨S256x256, .f32⟩
  | 115 => ⟨S256x256, .f32⟩
  | 116 => ⟨S256x256, .f32⟩
  | 117 => ⟨S256x256, .f32⟩
  | 118 => ⟨S256x256, .i1⟩
  | 119 => ⟨S256x256, .f32⟩
  | 120 => ⟨S256x256, .f32⟩
  | 121 => ⟨S_, .i32⟩
  | 122 => ⟨S256x1, .i32⟩
  | 123 => ⟨S256x1, .i1⟩
  | 124 => ⟨S256x256, .f32⟩
  | 125 => ⟨S256x256, .f32⟩
  | 126 => ⟨S256x256, .f32⟩
  | 127 => ⟨S256x256, .f32⟩
  | _ => ⟨S10000x256, .f32⟩

abbrev hbmTy0_2 (i : Nat) : BufTy := match i % 128 with
  | 0 => ⟨S256x256, .i1⟩
  | 1 => ⟨S256x256, .f32⟩
  | 2 => ⟨S256x256, .f32⟩
  | 3 => ⟨S_, .i32⟩
  | 4 => ⟨S_, .i32⟩
  | 5 => ⟨S_, .i32⟩
  | 6 => ⟨S10000x16, .i32⟩
  | 7 => ⟨S10000x16, .i1⟩
  | 8 => ⟨S_, .i32⟩
  | 9 => ⟨S10000x16, .i32⟩
  | 10 => ⟨S10000x16, .i32⟩
  | 11 => ⟨S10000x16, .i32⟩
  | 12 => ⟨S10000x16x1, .i32⟩
  | 13 => ⟨S10000x16x256, .f32⟩
  | 14 => ⟨S10000x16x1, .f32⟩
  | 15 => ⟨S10000x16x256, .f32⟩
  | 16 => ⟨S10000x16x256, .f32⟩
  | 17 => ⟨S_, .f32⟩
  | 18 => ⟨S10000x256, .f32⟩
  | 19 => ⟨S10000x256, .f32⟩
  | 20 => ⟨S10000x256, .f32⟩
  | 21 => ⟨S10000x256, .f32⟩
  | 22 => ⟨S_, .f32⟩
  | 23 => ⟨S10000x256, .f32⟩
  | 24 => ⟨S10000x256, .i1⟩
  | 25 => ⟨S_, .f32⟩
  | 26 => ⟨S10000x256, .f32⟩
  | 27 => ⟨S10000x256, .f32⟩
  | 28 => ⟨S10000x256, .f32⟩
  | _ => ⟨S10000x256, .f32⟩

abbrev hbmTy (i : Nat) : BufTy := match i / 128 with
  | 0 => hbmTy0_0 i
  | 1 => hbmTy0_1 i
  | 2 => hbmTy0_2 i
  | _ => ⟨S10000x256, .f32⟩

abbrev bufTy : (tb : Table) → Fin (tcTables nBuf tb) → BufTy
  | .hbm, ⟨i, _⟩ => hbmTy i
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_2 : Ref sig .tc := ⟨.hbm, 40, rfl⟩
abbrev main_call0_v0 : Ref sig .tc := ⟨.hbm, 41, rfl⟩
abbrev main_call0_v1 : Ref sig .tc := ⟨.hbm, 42, rfl⟩
abbrev main_v26 : Ref sig .tc := ⟨.hbm, 43, rfl⟩
abbrev main_v27 : Ref sig .tc := ⟨.hbm, 44, rfl⟩
abbrev main_values : Ref sig .tc := ⟨.hbm, 45, rfl⟩
abbrev main_indices : Ref sig .tc := ⟨.hbm, 46, rfl⟩
abbrev main_cst_3 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_4 : Ref sig .tc := ⟨.hbm, 52, rfl⟩
abbrev main_v32 : Ref sig .tc := ⟨.hbm, 53, rfl⟩
abbrev main_cst_5 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_6 : Ref sig .tc := ⟨.hbm, 61, rfl⟩
abbrev main_v39 : Ref sig .tc := ⟨.hbm, 62, rfl⟩
abbrev main_cst_7 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_8 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_9 : Ref sig .tc := ⟨.hbm, 84, rfl⟩
abbrev main_v59 : Ref sig .tc := ⟨.hbm, 85, rfl⟩
abbrev main_cst_10 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_11 : Ref sig .tc := ⟨.hbm, 93, rfl⟩
abbrev main_v66 : Ref sig .tc := ⟨.hbm, 94, rfl⟩
abbrev main_cst_12 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_13 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_cst_14 : Ref sig .tc := ⟨.hbm, 114, rfl⟩
abbrev main_v84 : Ref sig .tc := ⟨.hbm, 115, rfl⟩
abbrev main_v85 : Ref sig .tc := ⟨.hbm, 116, rfl⟩
abbrev main_cst_15 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_c : Ref sig .tc := ⟨.hbm, 121, rfl⟩
abbrev main_v89 : Ref sig .tc := ⟨.hbm, 122, rfl⟩
abbrev main_v90 : Ref sig .tc := ⟨.hbm, 123, rfl⟩
abbrev main_c_16 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_cst_17 : Ref sig .tc := ⟨.hbm, 134, rfl⟩
abbrev main_v100 : Ref sig .tc := ⟨.hbm, 135, rfl⟩
abbrev main_v101 : Ref sig .tc := ⟨.hbm, 136, rfl⟩
abbrev main_cst_18 : Ref sig .tc := ⟨.hbm, 137, rfl⟩
abbrev main_call2_v0 : Ref sig .tc := ⟨.hbm, 138, rfl⟩
abbrev main_call2_v1 : Ref sig .tc := ⟨.hbm, 139, rfl⟩
abbrev main_v102 : Ref sig .tc := ⟨.hbm, 140, rfl⟩
abbrev main_cst_19 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_cst_20 : Ref sig .tc := ⟨.hbm, 145, rfl⟩
abbrev main_v106 : Ref sig .tc := ⟨.hbm, 146, rfl⟩
abbrev main_v107 : Ref sig .tc := ⟨.hbm, 147, rfl⟩
abbrev main_cst_21 : Ref sig .tc := ⟨.hbm, 148, rfl⟩
abbrev main_call3_v0 : Ref sig .tc := ⟨.hbm, 149, rfl⟩
abbrev main_call3_v1 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_cst_22 : Ref sig .tc := ⟨.hbm, 155, rfl⟩
abbrev main_call4_v0 : Ref sig .tc := ⟨.hbm, 156, rfl⟩
abbrev main_call4_v1 : Ref sig .tc := ⟨.hbm, 157, rfl⟩
abbrev main_v112 : Ref sig .tc := ⟨.hbm, 158, rfl⟩
abbrev main_cst_23 : Ref sig .tc := ⟨.hbm, 159, rfl⟩
abbrev main_v113 : Ref sig .tc := ⟨.hbm, 160, rfl⟩
abbrev main_v114 : Ref sig .tc := ⟨.hbm, 161, rfl⟩
abbrev main_cst_24 : Ref sig .tc := ⟨.hbm, 162, rfl⟩
abbrev main_v115 : Ref sig .tc := ⟨.hbm, 163, rfl⟩
abbrev main_v116 : Ref sig .tc := ⟨.hbm, 164, rfl⟩
abbrev main_cst_25 : Ref sig .tc := ⟨.hbm, 165, rfl⟩
abbrev main_call5_v0 : Ref sig .tc := ⟨.hbm, 166, rfl⟩
abbrev main_call5_v1 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_c_26 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_c_27 : Ref sig .tc := ⟨.hbm, 187, rfl⟩
abbrev main_c_28 : Ref sig .tc := ⟨.hbm, 188, rfl⟩
abbrev main_v135_0 : Ref sig .tc := ⟨.hbm, 189, rfl⟩
abbrev main_v135_1 : Ref sig .tc := ⟨.hbm, 190, rfl⟩
abbrev main_v135_2 : Ref sig .tc := ⟨.hbm, 191, rfl⟩
abbrev main_v135_3 : Ref sig .tc := ⟨.hbm, 192, rfl⟩
abbrev main_v135_4 : Ref sig .tc := ⟨.hbm, 193, rfl⟩
abbrev main_while0c_c_38 : Ref sig .tc := ⟨.hbm, 194, rfl⟩
abbrev main_while0c_v155 : Ref sig .tc := ⟨.hbm, 195, rfl⟩
abbrev main_while0b_c_38 : Ref sig .tc := ⟨.hbm, 196, rfl⟩
abbrev main_while0b_v155 : Ref sig .tc := ⟨.hbm, 197, rfl⟩
abbrev main_while0b_c_39 : Ref sig .tc := ⟨.hbm, 198, rfl⟩
abbrev main_while0b_v156 : Ref sig .tc := ⟨.hbm, 199, rfl⟩
abbrev main_while0b_v157 : Ref sig .tc := ⟨.hbm, 200, rfl⟩
abbrev main_while0b_c_40 : Ref sig .tc := ⟨.hbm, 201, rfl⟩
abbrev main_while0b_v158 : Ref sig .tc := ⟨.hbm, 202, rfl⟩
abbrev main_while0b_v159 : Ref sig .tc := ⟨.hbm, 203, rfl⟩
abbrev main_while0b_c_41 : Ref sig .tc := ⟨.hbm, 204, rfl⟩
abbrev main_while0b_v160 : Ref sig .tc := ⟨.hbm, 205, rfl⟩
abbrev main_while0b_c_42 : Ref sig .tc := ⟨.hbm, 206, rfl⟩
abbrev main_while0b_v161 : Ref sig .tc := ⟨.hbm, 207, rfl⟩
abbrev main_while0b_v162 : Ref sig .tc := ⟨.hbm, 208, rfl⟩
abbrev main_while0b_c_43 : Ref sig .tc := ⟨.hbm, 209, rfl⟩
abbrev main_while0b_v163 : Ref sig .tc := ⟨.hbm, 210, rfl⟩
abbrev main_while0b_v164 : Ref sig .tc := ⟨.hbm, 211, rfl⟩
abbrev main_while0b_c_44 : Ref sig .tc := ⟨.hbm, 212, rfl⟩
abbrev main_while0b_v165 : Ref sig .tc := ⟨.hbm, 213, rfl⟩
abbrev main_while0b_c_45 : Ref sig .tc := ⟨.hbm, 214, rfl⟩
abbrev main_while0b_v166 : Ref sig .tc := ⟨.hbm, 215, rfl⟩
abbrev main_while0b_v167 : Ref sig .tc := ⟨.hbm, 216, rfl⟩
abbrev main_while0b_c_46 : Ref sig .tc := ⟨.hbm, 217, rfl⟩
abbrev main_while0b_v168 : Ref sig .tc := ⟨.hbm, 218, rfl⟩
abbrev main_while0b_v169 : Ref sig .tc := ⟨.hbm, 219, rfl⟩
abbrev main_while0b_c_47 : Ref sig .tc := ⟨.hbm, 220, rfl⟩
abbrev main_while0b_v170 : Ref sig .tc := ⟨.hbm, 221, rfl⟩
abbrev main_while0b_v171 : Ref sig .tc := ⟨.hbm, 222, rfl⟩
abbrev main_while0b_c_48 : Ref sig .tc := ⟨.hbm, 223, rfl⟩
abbrev main_while0b_v172 : Ref sig .tc := ⟨.hbm, 224, rfl⟩
abbrev main_while0b_v173 : Ref sig .tc := ⟨.hbm, 225, rfl⟩
abbrev main_while0b_v174 : Ref sig .tc := ⟨.hbm, 226, rfl⟩
abbrev main_while0b_c_49 : Ref sig .tc := ⟨.hbm, 227, rfl⟩
abbrev main_while0b_v175 : Ref sig .tc := ⟨.hbm, 228, rfl⟩
abbrev main_while0b_v176 : Ref sig .tc := ⟨.hbm, 229, rfl⟩
abbrev main_while0b_c_50 : Ref sig .tc := ⟨.hbm, 230, rfl⟩
abbrev main_while0b_v177 : Ref sig .tc := ⟨.hbm, 231, rfl⟩
abbrev main_while0b_v178 : Ref sig .tc := ⟨.hbm, 232, rfl⟩
abbrev main_while0b_c_51 : Ref sig .tc := ⟨.hbm, 233, rfl⟩
abbrev main_while0b_v179 : Ref sig .tc := ⟨.hbm, 234, rfl⟩
abbrev main_while0b_v180 : Ref sig .tc := ⟨.hbm, 235, rfl⟩
abbrev main_while0b_v181 : Ref sig .tc := ⟨.hbm, 236, rfl⟩
abbrev main_while0b_v182 : Ref sig .tc := ⟨.hbm, 237, rfl⟩
abbrev main_while0b_v183 : Ref sig .tc := ⟨.hbm, 238, rfl⟩
abbrev main_while0b_v184 : Ref sig .tc := ⟨.hbm, 239, rfl⟩
abbrev main_while0b_v185 : Ref sig .tc := ⟨.hbm, 240, rfl⟩
abbrev main_while0b_v186 : Ref sig .tc := ⟨.hbm, 241, rfl⟩
abbrev main_while0b_v187 : Ref sig .tc := ⟨.hbm, 242, rfl⟩
abbrev main_while0b_v188 : Ref sig .tc := ⟨.hbm, 243, rfl⟩
abbrev main_while0b_v189 : Ref sig .tc := ⟨.hbm, 244, rfl⟩
abbrev main_while0b_v190 : Ref sig .tc := ⟨.hbm, 245, rfl⟩
abbrev main_while0b_call6_v0 : Ref sig .tc := ⟨.hbm, 246, rfl⟩
abbrev main_while0b_call6_v1 : Ref sig .tc := ⟨.hbm, 247, rfl⟩
abbrev main_while0b_v191 : Ref sig .tc := ⟨.hbm, 248, rfl⟩
abbrev main_while0b_v192 : Ref sig .tc := ⟨.hbm, 249, rfl⟩
abbrev main_while0b_v193 : Ref sig .tc := ⟨.hbm, 250, rfl⟩
abbrev main_while0b_v194 : Ref sig .tc := ⟨.hbm, 251, rfl⟩
abbrev main_while0b_v195 : Ref sig .tc := ⟨.hbm, 252, rfl⟩
abbrev main_while0b_v196 : Ref sig .tc := ⟨.hbm, 253, rfl⟩
abbrev main_while0b_v197 : Ref sig .tc := ⟨.hbm, 254, rfl⟩
abbrev main_while0b_v198 : Ref sig .tc := ⟨.hbm, 255, rfl⟩
abbrev main_while0b_call7_v0 : Ref sig .tc := ⟨.hbm, 256, rfl⟩
abbrev main_while0b_call7_v1 : Ref sig .tc := ⟨.hbm, 257, rfl⟩
abbrev main_while0b_v199 : Ref sig .tc := ⟨.hbm, 258, rfl⟩
abbrev main_while0b_c_52 : Ref sig .tc := ⟨.hbm, 259, rfl⟩
abbrev main_while0b_v200 : Ref sig .tc := ⟨.hbm, 260, rfl⟩
abbrev main_c_29 : Ref sig .tc := ⟨.hbm, 261, rfl⟩
abbrev main_v136 : Ref sig .tc := ⟨.hbm, 262, rfl⟩
abbrev main_v137 : Ref sig .tc := ⟨.hbm, 263, rfl⟩
abbrev main_c_30 : Ref sig .tc := ⟨.hbm, 264, rfl⟩
abbrev main_v138 : Ref sig .tc := ⟨.hbm, 265, rfl⟩
abbrev main_v139 : Ref sig .tc := ⟨.hbm, 266, rfl⟩
abbrev main_v140 : Ref sig .tc := ⟨.hbm, 267, rfl⟩
abbrev main_v141 : Ref sig .tc := ⟨.hbm, 268, rfl⟩
abbrev main_v142 : Ref sig .tc := ⟨.hbm, 269, rfl⟩
abbrev main_v143 : Ref sig .tc := ⟨.hbm, 270, rfl⟩
abbrev main_v144 : Ref sig .tc := ⟨.hbm, 271, rfl⟩
abbrev main_v145 : Ref sig .tc := ⟨.hbm, 272, rfl⟩
abbrev main_cst_31 : Ref sig .tc := ⟨.hbm, 273, rfl⟩
abbrev main_v146 : Ref sig .tc := ⟨.hbm, 274, rfl⟩
abbrev main_v147 : Ref sig .tc := ⟨.hbm, 275, rfl⟩
abbrev main_v148 : Ref sig .tc := ⟨.hbm, 276, rfl⟩
abbrev main_v149 : Ref sig .tc := ⟨.hbm, 277, rfl⟩
abbrev main_cst_32 : Ref sig .tc := ⟨.hbm, 278, rfl⟩
abbrev main_v150 : Ref sig .tc := ⟨.hbm, 279, rfl⟩
abbrev main_v151 : Ref sig .tc := ⟨.hbm, 280, rfl⟩
abbrev main_cst_33 : Ref sig .tc := ⟨.hbm, 281, rfl⟩
abbrev main_v152 : Ref sig .tc := ⟨.hbm, 282, rfl⟩
abbrev main_v153 : Ref sig .tc := ⟨.hbm, 283, rfl⟩
abbrev main_v154 : Ref sig .tc := ⟨.hbm, 284, rfl⟩

abbrev nD : Nat := 1
abbrev τ : Topo := Topo.v7x

variable {F : FTy → Type} [FloatOps F]

abbrev main_while0_count : Scf.Loop 32 := ⟨0#32, 256#32, 1#32⟩
-- ==== Proof.RefRun.lean ====
module

public import proofs.«01_k».proof.Proof.Gen.ReferenceIdeal.Run

@[expose] public section

set_option maxRecDepth 16384

/-! The reference's run: its contents at every boundary, and its result with the arguments as launched. -/

noncomputable section

namespace Cert.ReferenceIdeal.Value

open Idealize.ShloMosaic Idealize.ShloMosaic.TcCoe Idealize.ShloMosaic.StableHlo
open Idealize.SL Idealize.SL.Sem
open Cert.ReferenceIdeal Cert.ReferenceIdeal.Gen

variable {F : FTy → Type} [FloatOps F]
variable (m : (ℓ : Loc nD τ sig) → Buf (Elt F) ℓ) (ρ : Dev nD → PrngReg)

/-- The contents at launch. -/
abbrev X0 : Dev nD → Valuation τ sig (Elt F) := fun c => launchContents m c
/-- After `hostOps0`. -/
abbrev X1 : Dev nD → Valuation τ sig (Elt F) := fun c => after hostOps0 (X0 m c)
theorem X1_of (c : Dev nD) (r : Ref sig .tc) (h : r ∉ hostOps0_W) : X1 m c (Proc.devRef .tc r) = X0 m c (Proc.devRef .tc r) :=
  after_of_writes_sub hostOps0 _ hostOps0_writes h
/-- After `hostOps0_1`. -/
abbrev X2 : Dev nD → Valuation τ sig (Elt F) := fun c => after hostOps0_1 (X1 m c)
theorem X2_of (c : Dev nD) (r : Ref sig .tc) (h : r ∉ hostOps0_1_W) : X2 m c (Proc.devRef .tc r) = X1 m c (Proc.devRef .tc r) :=
  after_of_writes_sub hostOps0_1 _ hostOps0_1_writes h
/-- After `hostOps0_2`. -/
abbrev X3 : Dev nD → Valuation τ sig (Elt F) := fun c => after hostOps0_2 (X2 m c)
theorem X3_of (c : Dev nD) (r : Ref sig .tc) (h : r ∉ hostOps0_2_W) : X3 m c (Proc.devRef .tc r) = X2 m c (Proc.devRef .tc r) :=
  after_of_writes_sub hostOps0_2 _ hostOps0_2_writes h
/-- After `hostOps0_3`. -/
abbrev X4 : Dev nD → Valuation τ sig (Elt F) := fun c => after hostOps0_3 (X3 m c)
theorem X4_of (c : Dev nD) (r : Ref sig .tc) (h : r ∉ hostOps0_3_W) : X4 m c (Proc.devRef .tc r) = X3 m c (Proc.devRef .tc r) :=
  after_of_writes_sub hostOps0_3 _ hostOps0_3_writes h
/-- After `hostOps0_4`. -/
abbrev X5 : Dev nD → Valuation τ sig (Elt F) := fun c => after hostOps0_4 (X4 m c)
theorem X5_of (c : Dev nD) (r : Ref sig .tc) (h : r ∉ hostOps0_4_W) : X5 m c (Proc.devRef .tc r) = X4 m c (Proc.devRef .tc r) :=
  after_of_writes_sub hostOps0_4 _ hostOps0_4_writes h
/-- After `hostOps0_5`. -/
abbrev X6 : Dev nD → Valuation τ sig (Elt F) := fun c => after hostOps0_5 (X5 m c)
theorem X6_of (c : Dev nD) (r : Ref sig .tc) (h : r ∉ hostOps0_5_W) : X6 m c (Proc.devRef .tc r) = X5 m c (Proc.devRef .tc r) :=
  after_of_writes_sub hostOps0_5 _ hostOps0_5_writes h
/-- After `hostOps0_6`. -/
abbrev X7 : Dev nD → Valuation τ sig (Elt F) := fun c => after hostOps0_6 (X6 m c)
theorem X7_of (c : Dev nD) (r : Ref sig .tc) (h : r ∉ hostOps0_6_W) : X7 m c (Proc.devRef .tc r) = X6 m c (Proc.devRef .tc r) :=
  after_of_writes_sub hostOps0_6 _ hostOps0_6_writes h
/-- After `hostOps0_7`. -/
abbrev X8 : Dev nD → Valuation τ sig (Elt F) := fun c => after hostOps0_7 (X7 m c)
theorem X8_of (c : Dev nD) (r : Ref sig .tc) (h : r ∉ hostOps0_7_W) : X8 m c (Proc.devRef .tc r) = X7 m c (Proc.devRef .tc r) :=
  after_of_writes_sub hostOps0_7 _ hostOps0_7_writes h
/-- After `hostOps0_8`. -/
abbrev X9 : Dev nD → Valuation τ sig (Elt F) := fun c => after hostOps0_8 (X8 m c)
theorem X9_of (c : Dev nD) (r : Ref sig .tc) (h : r ∉ hostOps0_8_W) : X9 m c (Proc.devRef .tc r) = X8 m c (Proc.devRef .tc r) :=
  after_of_writes_sub hostOps0_8 _ hostOps0_8_writes h
/-- After `hostOps0_9`. -/
abbrev X10 : Dev nD → Valuation τ sig (Elt F) := fun c => after hostOps0_9 (X9 m c)
theorem X10_of (c : Dev nD) (r : Ref sig .tc) (h : r ∉ hostOps0_9_W) : X10 m c (Proc.devRef .tc r) = X9 m c (Proc.devRef .tc r) :=
  after_of_writes_sub hostOps0_9 _ hostOps0_9_writes h
/-- After `hostOps0_10`. -/
abbrev X11 : Dev nD → Valuation τ sig (Elt F) := fun c => after hostOps0_10 (X10 m c)
theorem X11_of (c : Dev nD) (r : Ref sig .tc) (h : r ∉ hostOps0_10_W) : X11 m c (Proc.devRef .tc r) = X10 m c (Proc.devRef .tc r) :=
  after_of_writes_sub hostOps0_10 _ hostOps0_10_writes h
/-- After `hostOps0_11`. -/
abbrev X12 : Dev nD → Valuation τ sig (Elt F) := fun c => after hostOps0_11 (X11 m c)
theorem X12_of (c : Dev nD) (r : Ref sig .tc) (h : r ∉ hostOps0_11_W) : X12 m c (Proc.devRef .tc r) = X11 m c (Proc.devRef .tc r) :=
  after_of_writes_sub hostOps0_11 _ hostOps0_11_writes h
/-- After `hostOps0_12`. -/
abbrev X13 : Dev nD → Valuation τ sig (Elt F) := fun c => after hostOps0_12 (X12 m c)
theorem X13_of (c : Dev nD) (r : Ref sig .tc) (h : r ∉ hostOps0_12_W) : X13 m c (Proc.devRef .tc r) = X12 m c (Proc.devRef .tc r) :=
  after_of_writes_sub hostOps0_12 _ hostOps0_12_writes h

theorem entry_eq (c : Dev nD) : entryContents preI m c = X13 m c := rfl

/-- What no operation of the loop writes keeps its contents through the trips. -/
theorem atK_of (c : Dev nD) (r : Ref sig .tc) (h0 : r ∉ condOps_W)
    (b0 : r ∉ while0Ops0_W)
    (b1 : r ∉ while0Ops0_1_W)
    (b2 : r ∉ while0Ops0_2_W)
    (b3 : r ∉ while0Ops0_3_W)
    (b4 : r ∉ while0Ops0_4_W) :
    ∀ k, atK m k c (Proc.devRef .tc r) = X13 m c (Proc.devRef .tc r)
  | 0 => rfl
  | k + 1 => by
    have ih := atK_of c r h0 b0 b1 b2 b3 b4 k
    show after while0Ops0_4 (after while0Ops0_3 (after while0Ops0_2 (after while0Ops0_1 (after while0Ops0 (after condOps (atK m k c)))))) (Proc.devRef .tc r) = _
    rw [after_of_writes_sub _ _ while0Ops0_4_writes b4, after_of_writes_sub _ _ while0Ops0_3_writes b3, after_of_writes_sub _ _ while0Ops0_2_writes b2, after_of_writes_sub _ _ while0Ops0_1_writes b1, after_of_writes_sub _ _ while0Ops0_writes b0,
      after_of_writes_sub _ _ condOps_writes h0]
    exact ih

/-- The reference each operation of `hostOps0_13` writes, in order. -/
abbrev hostOps0_13_W : List (Ref sig .tc) := [main_c_29, main_v136, main_v137, main_c_30, main_v138, main_v139, main_v140, main_v141, main_v142, main_v143, main_v144, main_v145, main_cst_31, main_v146, main_v147, main_v148, main_v149, main_cst_32, main_v150, main_v151, main_cst_33, main_v152, main_v153]
theorem hostOps0_13_writes : (hostOps0_13 : List (HloOp τ sig (Elt F))).Forall fun op => op.writes ⊆ (hostOps0_13_W.map (Proc.devRef (τ := τ) .tc)).toFinset :=
  forall_writes_sub_of_map rfl
/-- The reference each operation of `hostOps0_14` writes, in order. -/
abbrev hostOps0_14_W : List (Ref sig .tc) := [main_v154]
theorem hostOps0_14_writes : (hostOps0_14 : List (HloOp τ sig (Elt F))).Forall fun op => op.writes ⊆ (hostOps0_14_W.map (Proc.devRef (τ := τ) .tc)).toFinset :=
  forall_writes_sub_of_map rfl
/-- At the loop's end. -/
abbrev XL : Dev nD → Valuation τ sig (Elt F) := fun c => after condOps (atK m 256 c)
/-- After the stretch past the loop. -/
abbrev X14 : Dev nD → Valuation τ sig (Elt F) := fun c => after hostOps0_13 (XL m c)
/-- At the program's end. -/
abbrev X15 : Dev nD → Valuation τ sig (Elt F) := fun c => after hostOps0_14 (X14 m c)
theorem XL_atK (c : Dev nD) (r : Ref sig .tc) (h : r ∉ condOps_W) : XL m c (Proc.devRef .tc r) = atK m 256 c (Proc.devRef .tc r) :=
  after_of_writes_sub condOps _ condOps_writes h
theorem X14_of (c : Dev nD) (r : Ref sig .tc) (h : r ∉ hostOps0_13_W) : X14 m c (Proc.devRef .tc r) = XL m c (Proc.devRef .tc r) :=
  after_of_writes_sub hostOps0_13 _ hostOps0_13_writes h
theorem X15_of (c : Dev nD) (r : Ref sig .tc) (h : r ∉ hostOps0_14_W) : X15 m c (Proc.devRef .tc r) = X14 m c (Proc.devRef .tc r) :=
  after_of_writes_sub hostOps0_14 _ hostOps0_14_writes h

theorem final_eq (c : Dev nD) : finalContents condOps preI bodyI postI 256 m c = X15 m c := rfl

/-- What no operation of the program writes ends as launched. -/
theorem X15_kept (c : Dev nD) (r : Ref sig .tc)
    (h : r ∉ condOps_W ∧ r ∉ while0Ops0_W ∧ r ∉ while0Ops0_1_W ∧ r ∉ while0Ops0_2_W ∧ r ∉ while0Ops0_3_W ∧ r ∉ while0Ops0_4_W ∧ r ∉ hostOps0_W ∧ r ∉ hostOps0_1_W ∧ r ∉ hostOps0_2_W ∧ r ∉ hostOps0_3_W ∧ r ∉ hostOps0_4_W ∧ r ∉ hostOps0_5_W ∧ r ∉ hostOps0_6_W ∧ r ∉ hostOps0_7_W ∧ r ∉ hostOps0_8_W ∧ r ∉ hostOps0_9_W ∧ r ∉ hostOps0_10_W ∧ r ∉ hostOps0_11_W ∧ r ∉ hostOps0_12_W ∧ r ∉ hostOps0_13_W ∧ r ∉ hostOps0_14_W) :
    X15 m c (Proc.devRef .tc r) = m ((c : Thread nD τ).loc r) := by
  obtain ⟨hc, b0, b1, b2, b3, b4, p0, p1, p2, p3, p4, p5, p6, p7, p8, p9, p10, p11, p12, q0, q1⟩ := h
  rw [X15_of m c r q1, X14_of m c r q0, XL_atK m c r hc, atK_of m c r hc b0 b1 b2 b3 b4 256, X13_of m c r p12, X12_of m c r p11, X11_of m c r p10, X10_of m c r p9, X9_of m c r p8, X8_of m c r p7, X7_of m c r p6, X6_of m c r p5, X5_of m c r p4, X4_of m c r p3, X3_of m c r p2, X2_of m c r p1, X1_of m c r p0]

/-- From any memory with zero counters the reference terminates with its result at the last boundary's contents and its arguments unchanged. -/
theorem run_value : θ_run (defs (F := F)) (onTc (τ := τ) (main (F := F))) ⟨m, fun _ => 0, ρ⟩ (fun r => (∀ c : Dev nD,
      r.2.mem ((c.tc : Thread nD τ).loc main_v154) = X15 m c (Proc.devRef .tc main_v154)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (run_fold m ρ).mono fun r h => ⟨fun c =>
    ⟨h c main_v154 rfl,
     (h c main_arg0 rfl).trans (X15_kept m c main_arg0 (by decide)),
     (h c main_arg1 rfl).trans (X15_kept m c main_arg1 (by decide)),
     (h c main_arg2 rfl).trans (X15_kept m c main_arg2 (by decide)),
     (h c main_arg3 rfl).trans (X15_kept m c main_arg3 (by decide)),
     (h c main_arg4 rfl).trans (X15_kept m c main_arg4 (by decide)),
     (h c main_arg5 rfl).trans (X15_kept m c main_arg5 (by decide)),
     (h c main_arg6 rfl).trans (X15_kept m c main_arg6 (by decide)),
     (h c main_arg7 rfl).trans (X15_kept m c main_arg7 (by decide)),
     (h c main_arg8 rfl).trans (X15_kept m c main_arg8 (by decide)),
     (h c main_arg9 rfl).trans (X15_kept m c main_arg9 (by decide)),
     (h c main_arg10 rfl).trans (X15_kept m c main_arg10 (by decide))⟩,
    funext fun g => by
      obtain ⟨t, s⟩ := g
      cases s with
      | reg i => exact i.elim0
      | dma i => exact i.elim0⟩

end Cert.ReferenceIdeal.Value

end
-- ==== Proof.Select.lean ====
module

public import Idealize.ShloMosaic.Lib.SortPrefix
public import Idealize.ShloMosaic.Lib.SortFacts
public import Mathlib.Data.EReal.Operations
public import Mathlib.Order.Interval.Finset.Fin

@[expose] public section

/-! The nearest-neighbour selection as mathematics: ranks under "smaller distance first, then smaller index", what one
round of the kernel's selection does to the candidates, and where a stable sort puts a candidate. -/

namespace Cert.Select

/-- `a` is chosen before `b`: a smaller distance, or the same distance and a smaller index. -/
def Before (D : ℕ → EReal) (a b : ℕ) : Prop := D a < D b ∨ (D a = D b ∧ a < b)

theorem Before.irrefl (D : ℕ → EReal) (a : ℕ) : ¬ Before D a a := by
  rintro (h | ⟨_, h⟩)
  · exact lt_irrefl _ h
  · exact lt_irrefl _ h

theorem Before.trans {D : ℕ → EReal} {a b c : ℕ} (h1 : Before D a b) (h2 : Before D b c) : Before D a c := by
  rcases h1 with h1 | ⟨e1, l1⟩ <;> rcases h2 with h2 | ⟨e2, l2⟩
  · exact Or.inl (h1.trans h2)
  · exact Or.inl (e2 ▸ h1)
  · exact Or.inl (e1 ▸ h2)
  · exact Or.inr ⟨e1.trans e2, l1.trans l2⟩

theorem Before.total (D : ℕ → EReal) {a b : ℕ} (h : a ≠ b) : Before D a b ∨ Before D b a := by
  rcases lt_trichotomy (D a) (D b) with h' | h' | h'
  · exact Or.inl (Or.inl h')
  · rcases lt_or_gt_of_ne h with l | l
    · exact Or.inl (Or.inr ⟨h', l⟩)
    · exact Or.inr (Or.inr ⟨h'.symm, l⟩)
  · exact Or.inr (Or.inl h')

theorem Before.le {D : ℕ → EReal} {a b : ℕ} (h : Before D a b) : D a ≤ D b := by
  rcases h with h | ⟨h, _⟩
  · exact h.le
  · exact h.le

open Classical in
/-- How many of the first `B` candidates are chosen before `j`. -/
noncomputable def rank (D : ℕ → EReal) (B j : ℕ) : ℕ := ((Finset.range B).filter fun a => Before D a j).card

theorem rank_mono {D : ℕ → EReal} {B B' j : ℕ} (h : B ≤ B') : rank D B j ≤ rank D B' j := by
  classical
  unfold rank
  apply Finset.card_le_card
  intro a ha
  simp only [Finset.mem_filter, Finset.mem_range] at ha ⊢
  exact ⟨ha.1.trans_le h, ha.2⟩

theorem rank_lt_of_before {D : ℕ → EReal} {B a b : ℕ} (ha : a < B) (h : Before D a b) : rank D B a < rank D B b := by
  classical
  unfold rank
  apply Finset.card_lt_card
  rw [Finset.ssubset_iff_of_subset]
  · exact ⟨a, by simp [ha, h], by simp [Before.irrefl]⟩
  · intro c hc
    simp only [Finset.mem_filter, Finset.mem_range] at hc ⊢
    exact ⟨hc.1, hc.2.trans h⟩

theorem rank_inj {D : ℕ → EReal} {B a b : ℕ} (ha : a < B) (hb : b < B) (h : rank D B a = rank D B b) : a = b := by
  by_contra hne
  rcases Before.total D hne with h' | h'
  · exact absurd h (rank_lt_of_before ha h').ne
  · exact absurd h (rank_lt_of_before hb h').ne'

theorem before_of_rank_lt {D : ℕ → EReal} {B a b : ℕ} (hb : b < B) (h : rank D B a < rank D B b) : Before D a b := by
  by_cases e : a = b
  · subst e; exact absurd h (lt_irrefl _)
  rcases Before.total D e with h' | h'
  · exact h'
  · exact absurd (rank_lt_of_before hb h') (by omega)

theorem rank_lt {D : ℕ → EReal} {B j : ℕ} (hj : j < B) : rank D B j < B := by
  classical
  have : rank D B j < (Finset.range B).card := by
    unfold rank
    apply Finset.card_lt_card
    rw [Finset.ssubset_iff_of_subset (Finset.filter_subset _ _)]
    exact ⟨j, by simp [hj], by simp [Before.irrefl]⟩
  simpa using this

/-- Every rank below `B` is taken. -/
theorem exists_rank (D : ℕ → EReal) {B t : ℕ} (ht : t < B) : ∃ j < B, rank D B j = t := by
  classical
  have hinj : Function.Injective (fun j : Fin B => (⟨rank D B j, rank_lt j.2⟩ : Fin B)) := by
    intro a b h
    exact Fin.ext (rank_inj a.2 b.2 (by simpa using h))
  obtain ⟨j, hj⟩ := (Finite.injective_iff_surjective.mp hinj) ⟨t, ht⟩
  exact ⟨j, j.2, by simpa using hj⟩

/-- Below a finite candidate every rank belongs to a finite candidate. -/
theorem exists_rank_le {D : ℕ → EReal} {B j t : ℕ} (hj : j < B) (hf : D j < ⊤) (ht : t ≤ rank D B j) :
    ∃ a < B, rank D B a = t ∧ D a ≤ D j ∧ D a < ⊤ := by
  rcases ht.lt_or_eq with h | h
  · obtain ⟨a, ha, e⟩ := exists_rank D (h.trans (rank_lt hj))
    have := (before_of_rank_lt hj (e ▸ h : rank D B a < _)).le
    exact ⟨a, ha, e, this, this.trans_lt hf⟩
  · exact ⟨j, hj, h.symm, le_rfl, hf⟩

/-- `v`, `i` is what slot `k` of the selection among the first `B` candidates holds: the candidate of rank `k` if it is
    finite, and otherwise the value infinity (with an arbitrary index). -/
def Slot (D : ℕ → EReal) (B k : ℕ) (v : EReal) (i : ℤ) : Prop :=
  (∃ j < B, D j < ⊤ ∧ rank D B j = k ∧ v = D j ∧ i = (j : ℤ)) ∨ (v = ⊤ ∧ ∀ j < B, D j < ⊤ → rank D B j < k)

theorem Slot.unique {D : ℕ → EReal} {B k : ℕ} {v v' : EReal} {i i' : ℤ} (h : Slot D B k v i) (h' : Slot D B k v' i') :
    v = v' ∧ (v < ⊤ → i = i') := by
  rcases h with ⟨j, hj, hf, hr, rfl, rfl⟩ | ⟨rfl, hn⟩ <;> rcases h' with ⟨j', hj', hf', hr', rfl, rfl⟩ | ⟨rfl, hn'⟩
  · have := rank_inj hj hj' (hr.trans hr'.symm)
    subst this
    exact ⟨rfl, fun _ => rfl⟩
  · exact absurd (hn' j hj hf) (by omega)
  · exact absurd (hn j' hj' hf') (by omega)
  · exact ⟨rfl, fun h => absurd h (lt_irrefl _)⟩

/-- The candidates (value `u`, index `id`) cover the selection among the first `B`: every finite one is such a candidate,
    and every finite candidate of rank below 16 is there. -/
def Cand (D : ℕ → EReal) (B : ℕ) {P : Type} (u : P → EReal) (id : P → ℤ) : Prop :=
  (∀ p, u p < ⊤ → ∃ j < B, id p = (j : ℤ) ∧ u p = D j) ∧
  (∀ j < B, D j < ⊤ → rank D B j < 16 → ∃ p, id p = (j : ℤ) ∧ u p = D j)

/-- The candidates after `t` rounds: those of rank below `t` are masked by infinity, the others are as they were. -/
def After (D : ℕ → EReal) (B : ℕ) {P : Type} (u : P → EReal) (id : P → ℤ) (t : ℕ) (v : P → EReal) : Prop :=
  (∀ p, v p = u p ∨ v p = ⊤) ∧ (∀ p, v p < ⊤ → t ≤ rank D B (id p).toNat) ∧
  (∀ p, u p < ⊤ → t ≤ rank D B (id p).toNat → v p = u p)

theorem after_zero (D : ℕ → EReal) (B : ℕ) {P : Type} (u : P → EReal) (id : P → ℤ) : After D B u id 0 u :=
  ⟨fun _ => Or.inl rfl, fun _ _ => Nat.zero_le _, fun _ _ _ => rfl⟩

/-- One round: the least value `m`, the least index `i` holding it, and everything of that index masked. -/
theorem pick {D : ℕ → EReal} {B : ℕ} {P : Type} {u : P → EReal} {id : P → ℤ} (hC : Cand D B u id) {t : ℕ} (ht : t < 16)
    {v : P → EReal} (hv : After D B u id t v) {m : EReal} (hm : ∀ p, m ≤ v p) {i : ℤ} (hi : ∃ p, v p = m ∧ id p = i)
    (hi' : ∀ p, v p = m → i ≤ id p) {v' : P → EReal} (hv' : ∀ p, v' p = if id p = i then ⊤ else v p) :
    Slot D B t m i ∧ After D B u id (t + 1) v' := by
  obtain ⟨h1, h2, h3⟩ := hv
  obtain ⟨c1, c2⟩ := hC
  obtain ⟨p0, e0, i0⟩ := hi
  rcases eq_or_ne m ⊤ with hmt | hmt
  · subst hmt
    have hall : ∀ p, v p = ⊤ := fun p => top_le_iff.mp (hm p)
    have hv't : ∀ p, v' p = ⊤ := fun p => by rw [hv', hall]; simp
    refine ⟨Or.inr ⟨rfl, fun j hj hf => ?_⟩, fun p => Or.inr (hv't p), fun p hp => ?_, fun p hp hr => ?_⟩
    · by_contra hge
      obtain ⟨a, ha, er, -, hfa⟩ := exists_rank_le hj hf (not_lt.mp hge)
      obtain ⟨p, ep, up⟩ := c2 a ha hfa (er ▸ ht)
      have := h3 p (up ▸ hfa) (by rw [ep]; simp [er])
      rw [hall, up] at this
      exact absurd hfa (by simp [← this])
    · rw [hv't] at hp; exact absurd hp (lt_irrefl _)
    · have := h3 p hp (by omega)
      rw [hall] at this
      exact absurd hp (by simp [← this])
  · have hmf : m < ⊤ := lt_top_iff_ne_top.mpr hmt
    have hu0 : u p0 = m := by
      rcases h1 p0 with h | h
      · exact h ▸ e0
      · exact absurd (e0.symm.trans h) hmt
    obtain ⟨j, hj, ej, uj⟩ := c1 p0 (hu0 ▸ hmf)
    have hij : i = (j : ℤ) := i0 ▸ ej
    have hmj : m = D j := hu0 ▸ uj
    have hge : t ≤ rank D B j := by
      have := h2 p0 (e0 ▸ hmf)
      rwa [ej, Int.toNat_natCast] at this
    have hr : rank D B j = t := by
      by_contra hne
      obtain ⟨a, ha, er, hle, hfa⟩ := exists_rank_le hj (hmj ▸ hmf) hge
      have hb : Before D a j := before_of_rank_lt hj (by omega)
      obtain ⟨p, ep, up⟩ := c2 a ha hfa (er ▸ ht)
      have hvp := h3 p (up ▸ hfa) (by rw [ep]; simp [er])
      have hma := hm p
      rw [hvp, up] at hma
      rcases hb with hlt | ⟨he, hlt⟩
      · exact absurd (hma.trans_lt hlt) (by simp [hmj])
      · have := hi' p (by rw [hvp, up, he, hmj])
        rw [ep, hij] at this
        omega
    refine ⟨Or.inl ⟨j, hj, hmj ▸ hmf, hr, hmj, hij⟩, fun p => ?_, fun p hp => ?_, fun p hp hrp => ?_⟩
    · rw [hv']; split
      · exact Or.inr rfl
      · exact h1 p
    · rw [hv'] at hp
      split at hp
      · exact absurd hp (lt_irrefl _)
      · rename_i hne
        have h := h2 p hp
        rcases h.lt_or_eq with h | h
        · exact h
        · exfalso
          have hup : u p < ⊤ := by
            rcases h1 p with e | e
            · exact e ▸ hp
            · exact absurd hp (by simp [e])
          obtain ⟨a, ha, ea, -⟩ := c1 p hup
          rw [ea, Int.toNat_natCast] at h
          have := rank_inj ha hj (h.symm.trans hr.symm)
          exact hne (by rw [ea, hij, this])
    · rw [hv', if_neg, h3 p hp (by omega)]
      intro e
      rw [e, hij, Int.toNat_natCast] at hrp
      omega

/-- The slots of the selection among the first `B` and the candidates `B … B' − 1` cover the selection among the first
    `B'`. -/
theorem cand_next {D : ℕ → EReal} {B B' : ℕ} (hB : B ≤ B') {P : Type} {u : P → EReal} {id : P → ℤ}
    (hP : ∀ p, (∃ k < 16, Slot D B k (u p) (id p)) ∨ ∃ j, B ≤ j ∧ j < B' ∧ u p = D j ∧ id p = (j : ℤ))
    (hs : ∀ k < 16, ∃ p, Slot D B k (u p) (id p)) (ht : ∀ j, B ≤ j → j < B' → ∃ p, u p = D j ∧ id p = (j : ℤ)) :
    Cand D B' u id := by
  refine ⟨fun p hp => ?_, fun j hj hf hr => ?_⟩
  · rcases hP p with ⟨k, _, ⟨j, hj, _, _, e, e'⟩ | ⟨e, _⟩⟩ | ⟨j, _, hj, e, e'⟩
    · exact ⟨j, hj.trans_le hB, e', e⟩
    · exact absurd hp (by simp [e])
    · exact ⟨j, hj, e', e⟩
  · by_cases hlt : j < B
    · have hrB : rank D B j < 16 := (rank_mono hB).trans_lt hr
      obtain ⟨p, hp⟩ := hs _ hrB
      rcases hp with ⟨a, ha, _, hra, e, e'⟩ | ⟨_, hn⟩
      · have := rank_inj ha hlt hra
        subst this
        exact ⟨p, e', e⟩
      · exact absurd (hn j hlt hf) (lt_irrefl _)
    · obtain ⟨p, e, e'⟩ := ht j (not_lt.mp hlt) hj
      exact ⟨p, e', e⟩

/-- Among no candidates every slot is empty. -/
theorem slot_nil (D : ℕ → EReal) (k : ℕ) (i : ℤ) : Slot D 0 k ⊤ i := Or.inr ⟨rfl, fun j hj => absurd hj (Nat.not_lt_zero j)⟩

section sort
open Idealize.ShloMosaic

variable {n : ℕ} (x : Fin n → EReal)

/-- The order of a stable sort by a key going down: the greater key first, then the smaller position. -/
noncomputable def down : Fin n → Fin n → Bool :=
  fun a b => decide (x b < x a) || (decide (x a = x b) && decide (a < b))

theorem down_total : StrictTotalBefore (down x) :=
  StrictTotalBefore.of_key_then_position (fun a b : EReal => decide (b < a)) x (by simp)
    (by intro a b c h h'; simp only [decide_eq_true_eq] at *; exact h'.trans h)
    (by intro a b; simp only [decide_eq_true_eq]; rcases lt_trichotomy a b with h | h | h <;> simp [h])

theorem insert_eq (a : Fin n) (l : List (Fin n)) (h : ∀ b ∈ l, a < b) :
    insertBefore (fun p q => decide (x q < x p)) a l = insertBefore (down x) a l := by
  induction l with
  | nil => rfl
  | cons b l ih =>
    have hb : decide (b < a) = false := by simpa using (h b (by simp)).le
    unfold insertBefore
    rw [ih fun c hc => h c (by simp [hc])]
    simp [down, hb]

theorem sort_eq (l : List (Fin n)) (h : l.Pairwise (· < ·)) :
    stableSort (fun p q => decide (x q < x p)) l = stableSort (down x) l := by
  induction l with
  | nil => rfl
  | cons a l ih =>
    rw [List.pairwise_cons] at h
    unfold stableSort
    rw [ih h.2, insert_eq]
    intro b hb
    exact h.1 b ((perm_stableSort _ l).mem_iff.mp hb)

theorem sortedFrom_down : sortedFrom (fun p q : Fin n => decide (x q < x p)) = sortedFrom (down x) := by
  funext k
  have e : sortPositions n (fun p q : Fin n => decide (x q < x p)) = sortPositions n (down x) :=
    sort_eq x _ (List.pairwise_lt_finRange n)
  unfold sortedFrom
  simp only [List.get_eq_getElem, Fin.val_cast, e]

/-- Position `k` of the stable sort by the key `−D` going down holds the candidate of rank `k`. -/
theorem rank_sortedFrom (D : ℕ → EReal) (hx : ∀ p : Fin n, x p = - D p) (k : Fin n) :
    rank D n (sortedFrom (fun p q : Fin n => decide (x q < x p)) k) = k := by
  classical
  rw [sortedFrom_down]
  have hB := down_total x
  have hbef : ∀ a b : Fin n, down x a b = true ↔ Before D a b := by
    intro a b
    simp only [down, hx, Bool.or_eq_true, Bool.and_eq_true, decide_eq_true_eq, EReal.neg_lt_neg_iff, neg_inj, Before,
      Fin.lt_def]
  have hinj := sortedFrom_injective (down x)
  have hsurj := sortedFrom_surjective (down x)
  have hni : ∀ i j : Fin n, i < j → down x (sortedFrom (down x) j) (sortedFrom (down x) i) = false :=
    sortedFrom_noInversion (down x) (down x)
      (by
        intro a b h
        by_contra h'
        rw [Bool.not_eq_false] at h'
        exact Before.irrefl D _ (((hbef a b).mp h).trans ((hbef b a).mp h')))
      (fun _ _ h => h)
      (by
        intro a b c h h'
        by_contra h''
        rw [Bool.not_eq_false] at h''
        by_cases e : a = b
        · subst e; rw [h''] at h'; exact Bool.noConfusion h'
        rcases Before.total D (fun e' => e (Fin.ext e')) with hab | hba
        · rw [(hbef a b).mpr hab] at h; exact Bool.noConfusion h
        · rw [(hbef b c).mpr (hba.trans ((hbef a c).mp h''))] at h'; exact Bool.noConfusion h')
  have hset : (Finset.range n).filter (fun a => Before D a (sortedFrom (down x) k)) =
      (Finset.univ.filter fun i : Fin n => i < k).image fun i => ((sortedFrom (down x) i : Fin n) : ℕ) := by
    ext a
    simp only [Finset.mem_filter, Finset.mem_range, Finset.mem_image, Finset.mem_univ, true_and]
    constructor
    · rintro ⟨ha, hb⟩
      obtain ⟨i, hi⟩ := hsurj ⟨a, ha⟩
      have ei : ((sortedFrom (down x) i : Fin n) : ℕ) = a := by rw [hi]
      refine ⟨i, ?_, ei⟩
      rcases lt_trichotomy i k with h | h | h
      · exact h
      · subst h; rw [ei] at hb; exact absurd hb (Before.irrefl D a)
      · have := hni k i h
        rw [(hbef _ _).mpr (by rw [ei]; exact hb)] at this
        exact Bool.noConfusion this
    · rintro ⟨i, hik, rfl⟩
      refine ⟨Fin.is_lt _, ?_⟩
      rcases Before.total D (fun e => hik.ne (hinj (Fin.ext e)) :
          ((sortedFrom (down x) i : Fin n) : ℕ) ≠ (sortedFrom (down x) k : Fin n)) with h | h
      · exact h
      · have := hni i k hik
        rw [(hbef _ _).mpr h] at this
        exact Bool.noConfusion this
  unfold rank
  rw [hset, Finset.card_image_of_injective _ (fun a b h => hinj (Fin.ext h)),
    show (Finset.univ.filter fun i : Fin n => i < k) = Finset.Iio k by ext; simp, Fin.card_Iio]

/-- Slot `k` as the stable sort leaves it. -/
theorem slot_sortedFrom (D : ℕ → EReal) (hx : ∀ p : Fin n, x p = - D p) (k : Fin n) :
    Slot D n k (D (sortedFrom (fun p q : Fin n => decide (x q < x p)) k))
      ((sortedFrom (fun p q : Fin n => decide (x q < x p)) k : Fin n) : ℕ) := by
  have hr := rank_sortedFrom x D hx k
  set j := sortedFrom (fun p q : Fin n => decide (x q < x p)) k
  rcases eq_or_ne (D j) ⊤ with h | h
  · refine Or.inr ⟨h, fun a ha hf => ?_⟩
    rw [← hr]
    exact rank_lt_of_before ha (Or.inl (h ▸ hf))
  · exact Or.inl ⟨j, j.2, lt_top_iff_ne_top.mpr h, hr, rfl, rfl⟩

end sort
end Cert.Select
-- ==== Proof.KernelRun.lean ====
module

public import proofs.«01_k».proof.Proof.Gen.KernelIdeal.Frame
public import Idealize.ShloMosaic.Lib.Tactic

@[expose] public section

set_option maxRecDepth 16384

/-! The whole kernel's run: the program's result at the last boundary's contents, the arguments as launched. -/

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters the kernel terminates with its result at the last boundary's contents and its arguments unchanged. -/
theorem run_value : θ_run defs (onTc (τ := τ) (main (F := F))) ⟨m, fun _ => 0, ρ⟩ (fun r => (∀ c : Dev nD,
      r.2.mem ((c.tc : Thread nD τ).loc main_v99) = W16 m ρ c (Proc.devRef .tc main_v99)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h hz => ⟨(fun c =>
      ⟨h c _ (mem_uc main_v99 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c)⟩), funext fun g => hz g (.inr (no_unscoped g.2))⟩)

end Cert.KernelIdeal.Value

end
-- ==== Proof.Region0.lean ====
module

public import proofs.«01_k».proof.Proof.KernelRun
public import Idealize.ShloMosaic.Lib.Pointwise
public import Idealize.ShloMosaic.Lib.Pipeline.Value

@[expose] public section

set_option maxRecDepth 16384

/-! The first region: what its body leaves at each point: the two products of the blocks, and the running column sums. -/

noncomputable section

namespace Cert.KernelIdeal.Value

open Idealize.ShloMosaic Idealize.ShloMosaic.TcCoe Idealize.SL.Sem
open Idealize.ShloMosaic.Pipeline (Dat)
open Cert.KernelIdeal Cert.KernelIdeal.Gen

theorem hz : (![0, 0] : Fin 2 → Nat) = fun _ => 0 := funext fun a => by fin_cases a <;> rfl

theorem out0_A_4_eq (c : Dev nD) (i : grid0.Coords) (a1 : Memref sig .tc .vmem S400x256 .f32) (h1 : a1.IsWhole) (a2 : Memref sig .tc .vmem S400x256 .f32) (h2 : a2.IsWhole) (a3 : Memref sig .tc .vmem S256x256 .f32) (h3 : a3.IsWhole) (a4 : Memref sig .tc .vmem S256x256 .f32) (h4 : a4.IsWhole) (a5 : Memref sig .tc .vmem S400x256 .f32) (h5 : a5.IsWhole) (a6 : Memref sig .tc .vmem S400x256 .f32) (h6 : a6.IsWhole) (a7 : Memref sig .tc .vmem S4x256 .f32) (h7 : a7.IsWhole) (hc : cond0_0 i)
    (x0 : Vec Ideal S400x256 .f32) (x1 : Vec Ideal S400x256 .f32) (x2 : Vec Ideal S256x256 .f32) (x3 : Vec Ideal S256x256 .f32) :
    out0_A_4 c i a1 h1 a2 h2 a3 h3 a4 h4 a5 h5 a6 h6 a7 h7 hc x0 x1 x2 x3 = k0_pay1 x0 x2 := by
  unfold out0_A_4
  rw [View.read_writes_eq_canon _ _ _ (cover0_A_4 c i a1 h1 a2 h2 a3 h3 a4 h4 a5 h5 a6 h6 a7 h7 hc x0 x1 x2 x3)]
  unfold kernelRun0_A
  dsimp only
  rw [View.canon_unit_zero hz]
  simp only [View.readAt_eq_ld, h1.read_unread, h2.read_unread, h3.read_unread, h4.read_unread, h7.read_unread, View.ld_unit_zero (S := S400x256) hz, View.ld_unit_zero (S := S256x256) hz, View.ld_unit_zero (S := S4x256) hz, shapeCast_self]

theorem out0_A_5_eq (c : Dev nD) (i : grid0.Coords) (a1 : Memref sig .tc .vmem S400x256 .f32) (h1 : a1.IsWhole) (a2 : Memref sig .tc .vmem S400x256 .f32) (h2 : a2.IsWhole) (a3 : Memref sig .tc .vmem S256x256 .f32) (h3 : a3.IsWhole) (a4 : Memref sig .tc .vmem S256x256 .f32) (h4 : a4.IsWhole) (a5 : Memref sig .tc .vmem S400x256 .f32) (h5 : a5.IsWhole) (a6 : Memref sig .tc .vmem S400x256 .f32) (h6 : a6.IsWhole) (a7 : Memref sig .tc .vmem S4x256 .f32) (h7 : a7.IsWhole) (hc : cond0_0 i)
    (x0 : Vec Ideal S400x256 .f32) (x1 : Vec Ideal S400x256 .f32) (x2 : Vec Ideal S256x256 .f32) (x3 : Vec Ideal S256x256 .f32) :
    out0_A_5 c i a1 h1 a2 h2 a3 h3 a4 h4 a5 h5 a6 h6 a7 h7 hc x0 x1 x2 x3 = k0_pay2 x1 x3 := by
  unfold out0_A_5
  rw [View.read_writes_eq_canon _ _ _ (cover0_A_5 c i a1 h1 a2 h2 a3 h3 a4 h4 a5 h5 a6 h6 a7 h7 hc x0 x1 x2 x3)]
  unfold kernelRun0_A
  dsimp only
  rw [View.canon_unit_zero hz]
  simp only [View.readAt_eq_ld, h1.read_unread, h2.read_unread, h3.read_unread, h4.read_unread, h7.read_unread, View.ld_unit_zero (S := S400x256) hz, View.ld_unit_zero (S := S256x256) hz, View.ld_unit_zero (S := S4x256) hz, shapeCast_self]

theorem out0_A_6_eq (c : Dev nD) (i : grid0.Coords) (a1 : Memref sig .tc .vmem S400x256 .f32) (h1 : a1.IsWhole) (a2 : Memref sig .tc .vmem S400x256 .f32) (h2 : a2.IsWhole) (a3 : Memref sig .tc .vmem S256x256 .f32) (h3 : a3.IsWhole) (a4 : Memref sig .tc .vmem S256x256 .f32) (h4 : a4.IsWhole) (a5 : Memref sig .tc .vmem S400x256 .f32) (h5 : a5.IsWhole) (a6 : Memref sig .tc .vmem S400x256 .f32) (h6 : a6.IsWhole) (a7 : Memref sig .tc .vmem S4x256 .f32) (h7 : a7.IsWhole) (hc : cond0_0 i)
    (x0 : Vec Ideal S400x256 .f32) (x1 : Vec Ideal S400x256 .f32) (x2 : Vec Ideal S256x256 .f32) (x3 : Vec Ideal S256x256 .f32) :
    out0_A_6 c i a1 h1 a2 h2 a3 h3 a4 h4 a5 h5 a6 h6 a7 h7 hc x0 x1 x2 x3 = k0_pay4 x0 x2 x1 x3 (k0_pay3 (F := Ideal)) := by
  unfold out0_A_6
  rw [View.read_writes_eq_canon _ _ _ (cover0_A_6 c i a1 h1 a2 h2 a3 h3 a4 h4 a5 h5 a6 h6 a7 h7 hc x0 x1 x2 x3)]
  unfold kernelRun0_A
  dsimp only
  sl_unfold_words
  rw [View.canon_cons_unit_zero (S := S4x256) hz, View.readCov_unit_zero (S := S4x256) _ hz]
  simp only [View.readAt_eq_ld, h1.read_unread, h2.read_unread, h3.read_unread, h4.read_unread, h7.read_unread, View.ld_unit_zero (S := S400x256) hz, View.ld_unit_zero (S := S256x256) hz, View.ld_unit_zero (S := S4x256) hz, shapeCast_self]

theorem out0_B_4_eq (c : Dev nD) (i : grid0.Coords) (a1 : Memref sig .tc .vmem S400x256 .f32) (h1 : a1.IsWhole) (a2 : Memref sig .tc .vmem S400x256 .f32) (h2 : a2.IsWhole) (a3 : Memref sig .tc .vmem S256x256 .f32) (h3 : a3.IsWhole) (a4 : Memref sig .tc .vmem S256x256 .f32) (h4 : a4.IsWhole) (a5 : Memref sig .tc .vmem S400x256 .f32) (h5 : a5.IsWhole) (a6 : Memref sig .tc .vmem S400x256 .f32) (h6 : a6.IsWhole) (a7 : Memref sig .tc .vmem S4x256 .f32) (h7 : a7.IsWhole) (hc : ¬cond0_0 i)
    (x0 : Vec Ideal S400x256 .f32) (x1 : Vec Ideal S400x256 .f32) (x2 : Vec Ideal S256x256 .f32) (x3 : Vec Ideal S256x256 .f32) (xo : Vec Ideal S4x256 .f32) :
    out0_B_4 c i a1 h1 a2 h2 a3 h3 a4 h4 a5 h5 a6 h6 a7 h7 hc x0 x1 x2 x3 xo = k0_pay1 x0 x2 := by
  unfold out0_B_4
  rw [View.read_writes_eq_canon _ _ _ (cover0_B_4 c i a1 h1 a2 h2 a3 h3 a4 h4 a5 h5 a6 h6 a7 h7 hc x0 x1 x2 x3 xo)]
  unfold kernelRun0_B
  dsimp only
  rw [View.canon_unit_zero hz]
  simp only [View.readAt_eq_ld, h1.read_unread, h2.read_unread, h3.read_unread, h4.read_unread, h7.read_unread, View.ld_unit_zero (S := S400x256) hz, View.ld_unit_zero (S := S256x256) hz, View.ld_unit_zero (S := S4x256) hz, shapeCast_self]

theorem out0_B_5_eq (c : Dev nD) (i : grid0.Coords) (a1 : Memref sig .tc .vmem S400x256 .f32) (h1 : a1.IsWhole) (a2 : Memref sig .tc .vmem S400x256 .f32) (h2 : a2.IsWhole) (a3 : Memref sig .tc .vmem S256x256 .f32) (h3 : a3.IsWhole) (a4 : Memref sig .tc .vmem S256x256 .f32) (h4 : a4.IsWhole) (a5 : Memref sig .tc .vmem S400x256 .f32) (h5 : a5.IsWhole) (a6 : Memref sig .tc .vmem S400x256 .f32) (h6 : a6.IsWhole) (a7 : Memref sig .tc .vmem S4x256 .f32) (h7 : a7.IsWhole) (hc : ¬cond0_0 i)
    (x0 : Vec Ideal S400x256 .f32) (x1 : Vec Ideal S400x256 .f32) (x2 : Vec Ideal S256x256 .f32) (x3 : Vec Ideal S256x256 .f32) (xo : Vec Ideal S4x256 .f32) :
    out0_B_5 c i a1 h1 a2 h2 a3 h3 a4 h4 a5 h5 a6 h6 a7 h7 hc x0 x1 x2 x3 xo = k0_pay2 x1 x3 := by
  unfold out0_B_5
  rw [View.read_writes_eq_canon _ _ _ (cover0_B_5 c i a1 h1 a2 h2 a3 h3 a4 h4 a5 h5 a6 h6 a7 h7 hc x0 x1 x2 x3 xo)]
  unfold kernelRun0_B
  dsimp only
  rw [View.canon_unit_zero hz]
  simp only [View.readAt_eq_ld, h1.read_unread, h2.read_unread, h3.read_unread, h4.read_unread, h7.read_unread, View.ld_unit_zero (S := S400x256) hz, View.ld_unit_zero (S := S256x256) hz, View.ld_unit_zero (S := S4x256) hz, shapeCast_self]

theorem out0_B_6_eq (c : Dev nD) (i : grid0.Coords) (a1 : Memref sig .tc .vmem S400x256 .f32) (h1 : a1.IsWhole) (a2 : Memref sig .tc .vmem S400x256 .f32) (h2 : a2.IsWhole) (a3 : Memref sig .tc .vmem S256x256 .f32) (h3 : a3.IsWhole) (a4 : Memref sig .tc .vmem S256x256 .f32) (h4 : a4.IsWhole) (a5 : Memref sig .tc .vmem S400x256 .f32) (h5 : a5.IsWhole) (a6 : Memref sig .tc .vmem S400x256 .f32) (h6 : a6.IsWhole) (a7 : Memref sig .tc .vmem S4x256 .f32) (h7 : a7.IsWhole) (hc : ¬cond0_0 i)
    (x0 : Vec Ideal S400x256 .f32) (x1 : Vec Ideal S400x256 .f32) (x2 : Vec Ideal S256x256 .f32) (x3 : Vec Ideal S256x256 .f32) (xo : Vec Ideal S4x256 .f32) :
    out0_B_6 c i a1 h1 a2 h2 a3 h3 a4 h4 a5 h5 a6 h6 a7 h7 hc x0 x1 x2 x3 xo = k0_pay4 x0 x2 x1 x3 xo := by
  unfold out0_B_6
  rw [View.read_writes_eq_canon _ _ _ (cover0_B_6 c i a1 h1 a2 h2 a3 h3 a4 h4 a5 h5 a6 h6 a7 h7 hc x0 x1 x2 x3 xo)]
  unfold kernelRun0_B
  dsimp only
  rw [View.canon_unit_zero hz]
  simp only [View.readAt_eq_ld, h1.read_unread, h2.read_unread, h3.read_unread, h4.read_unread, h7.read_unread, View.ld_unit_zero (S := S400x256) hz, View.ld_unit_zero (S := S256x256) hz, View.ld_unit_zero (S := S4x256) hz, shapeCast_self]

variable (V : (c : Dev nD) → (b : Ref sig .tc) → Buf (Elt Ideal) ((c : Thread nD τ).loc b)) (c : Dev nD)

/-- The running sums after point `n`. -/
def sums : (n : ℕ) → n < cfg0.N → Vec Ideal S4x256 .f32
  | 0, h => k0_pay4 (iblk0 V c 0 ⟨0, h⟩) (iblk0 V c 2 ⟨0, h⟩) (iblk0 V c 1 ⟨0, h⟩) (iblk0 V c 3 ⟨0, h⟩) (k0_pay3 (F := Ideal))
  | n + 1, h => k0_pay4 (iblk0 V c 0 ⟨n + 1, h⟩) (iblk0 V c 2 ⟨n + 1, h⟩) (iblk0 V c 1 ⟨n + 1, h⟩) (iblk0 V c 3 ⟨n + 1, h⟩)
      (sums n (Nat.lt_of_succ_lt h))

theorem outs0_1 (t : Fin cfg0.N) : (outsAt0 V c t.val t.isLt).1 = k0_pay1 (iblk0 V c 0 t) (iblk0 V c 2 t) := by
  by_cases h0 : t.val % 25 = 0
  · rw [outsAt0_A V c t h0]; dsimp only; rw [out0_A_4_eq]
  · rw [outsAt0_B V c t h0]; dsimp only; rw [out0_B_4_eq]

theorem outs0_2 (t : Fin cfg0.N) : (outsAt0 V c t.val t.isLt).2.1 = k0_pay2 (iblk0 V c 1 t) (iblk0 V c 3 t) := by
  by_cases h0 : t.val % 25 = 0
  · rw [outsAt0_A V c t h0]; dsimp only; rw [out0_A_5_eq]
  · rw [outsAt0_B V c t h0]; dsimp only; rw [out0_B_5_eq]

theorem outs0_3 : ∀ (n : ℕ) (h : n < cfg0.N), (outsAt0 V c n h).2.2 = sums V c n h
  | 0, h => by
    rw [show outsAt0 V c 0 h = outsAt0 V c (⟨0, h⟩ : Fin cfg0.N).val (⟨0, h⟩ : Fin cfg0.N).isLt from rfl, outsAt0_A V c ⟨0, h⟩ rfl]
    dsimp only; rw [out0_A_6_eq]; rfl
  | n + 1, h => by
    have hN : cfg0.N = 25 := N_0
    have hB : ¬(⟨n + 1, h⟩ : Fin cfg0.N).val % 25 = 0 := by dsimp only; omega
    rw [show outsAt0 V c (n + 1) h = outsAt0 V c (⟨n + 1, h⟩ : Fin cfg0.N).val (⟨n + 1, h⟩ : Fin cfg0.N).isLt from rfl, outsAt0_B V c ⟨n + 1, h⟩ hB]
    dsimp only; rw [out0_B_6_eq]
    show k0_pay4 _ _ _ _ (outsAt0 V c n _).2.2 = k0_pay4 _ _ _ _ (sums V c n _)
    rw [outs0_3 n]

end Cert.KernelIdeal.Value

end
-- ==== Proof.Region2.lean ====
module

public import proofs.«01_k».proof.Proof.Region0

@[expose] public section

set_option maxRecDepth 16384

/-! The third region: what its body leaves at a point, as five tiles of sixteen picks each. -/

noncomputable section

namespace Cert.KernelIdeal.Value

open Idealize.ShloMosaic Idealize.ShloMosaic.TcCoe Idealize.SL.Sem
open Idealize.ShloMosaic.Pipeline (Dat)
open Cert.KernelIdeal Cert.KernelIdeal.Gen

/-- The slots kept: sixteen values and sixteen indices for every row. -/
abbrev Kept := FVec Ideal S400x16 .f32 × IVec S400x16 32

/-- What a pick carries: the candidates and the slots. -/
abbrev Carried := FVec Ideal S400x2016 .f32 × Kept

/-- The column numbers of the tile that begins at column `o`. -/
def colsAt (o : BitVec 32) : IVec S1x2000 32 := addi (broadcast S1x2000 o) (iota .tc S1x2000 32 [1] iota_S1x2000_d1_w32)

/-- The squared distances between a block of rows and a tile of columns, not below zero. -/
def distOf (x0 : Vec Ideal S400x4 .f32) (xc : Vec Ideal S4x2000 .f32) : FVec Ideal S400x2000 .f32 :=
  maximumf
    (subf
      (addf (broadcastTo S400x2000 (k2_pay3 x0) broadcasts_S400x1_S400x2000)
        (broadcastTo S400x2000 (extractStridedSlice S1x2000 ![3, 0] (shapeCast S4x2000 xc shapeCasts_S4x2000_S4x2000) slices_S4x2000_o3_0_S1x2000) broadcasts_S1x2000_S400x2000))
      (mulf (broadcast S400x2000 (Scalar.ofBits .f32 0x40000000#32))
        (matmul (φ₁ := .f32) (φ₂ := .f32) dot_S400x3_S3x2000_S400x2000_1_0_0_1_n_n none (k2_pay2 x0)
          (extractStridedSlice S3x2000 ![0, 0] (shapeCast S4x2000 (xc : FVec Ideal S4x2000 .f32) shapeCasts_S4x2000_S4x2000) slices_S4x2000_o0_0_S3x2000)
          (constant S400x2000 .f32 0x00000000#32))))
    (broadcast S400x2000 (Scalar.ofBits .f32 0x00000000#32))

/-- The same with a row's own column masked. -/
def maskedOf (i : grid2.Coords) (o : BitVec 32) (x0 : Vec Ideal S400x4 .f32) (xc : Vec Ideal S4x2000 .f32) :
    FVec Ideal S400x2000 .f32 :=
  select (cmpi .eq (broadcastTo S400x2000 (k2_pay4 i) broadcasts_S400x1_S400x2000)
      (broadcastTo S400x2000 (colsAt o) broadcasts_S1x2000_S400x2000))
    (broadcast S400x2000 (Scalar.ofBits .f32 0x7F800000#32)) (distOf x0 xc)

/-- The candidates of a tile: the values kept so far and the tile's distances. -/
def candOf (i : grid2.Coords) (o : BitVec 32) (x0 : Vec Ideal S400x4 .f32) (xc : Vec Ideal S4x2000 .f32)
    (b : FVec Ideal S400x16 .f32) : FVec Ideal S400x2016 .f32 :=
  concatenate S400x2016 1 [⟨S400x16, b⟩, ⟨S400x2000, maskedOf i o x0 xc⟩] concatenates_S400x16_S400x2000_S400x2016_d1

/-- The candidates' indices. -/
def idsOf (o : BitVec 32) (d : IVec S400x16 32) : IVec S400x2016 32 :=
  concatenate S400x2016 1 [⟨S400x16, d⟩, ⟨S400x2000, broadcastTo S400x2000 (shapeCast S1x2000 (colsAt o) shapeCasts_S1x2000_S1x2000) broadcasts_S1x2000_S400x2000⟩] concatenates_S400x16_S400x2000_S400x2016_d1

/-- A row's least candidate. -/
def minOf (v : FVec Ideal S400x2016 .f32) : FVec Ideal S400x1 .f32 :=
  shapeCast S400x1 (multiReduction .minimumf [1] S400 v 0x7F800000#32 reduces_S400x2016_S400 (.inl rfl) rfl) shapeCasts_S400_S400x1

/-- The least index among the candidates that are least. -/
def argOf (ids : IVec S400x2016 32) (v : FVec Ideal S400x2016 .f32) : IVec S400x1 32 :=
  shapeCast S400x1 (multiReductionI .minsi [1] S400
    (select (cmpf .oeq v (broadcastTo S400x2016 (minOf v) broadcasts_S400x1_S400x2016)) ids (broadcast S400x2016 2147483647#32))
    2147483647#32 reduces_S400x2016_S400 rfl) shapeCasts_S400_S400x1

/-- The slots whose number is `t`. -/
def slotAt (t : BitVec 32) : IVec S400x16 1 := cmpi .eq (iota .tc S400x16 32 [1] iota_S400x16_d1_w32) (broadcast S400x16 t)

/-- One pick. -/
def pickOf (ids : IVec S400x2016 32) (t : BitVec 32) (s : Carried) : Carried :=
  (select (cmpi .eq ids (broadcastTo S400x2016 (argOf ids s.1) broadcasts_S400x1_S400x2016))
      (broadcast S400x2016 (Scalar.ofBits .f32 0x7F800000#32)) s.1,
    select (slotAt t) (broadcastTo S400x16 (shapeCast S400x1 (minOf s.1) shapeCasts_S400x1_S400x1) broadcasts_S400x1_S400x16) s.2.1,
    select (slotAt t) (broadcastTo S400x16 (shapeCast S400x1 (argOf ids s.1) shapeCasts_S400x1_S400x1) broadcasts_S400x1_S400x16) s.2.2)

/-- The sixteen picks of a tile. -/
def picksOf (ids : IVec S400x2016 32) (s : Carried) : Carried :=
  (List.finRange 16).foldl (fun acc k => pickOf ids (Scf.iv 0#32 1#32 k.val) acc) s

/-- A tile: from the slots kept so far to the slots kept after it. -/
def tileOf (i : grid2.Coords) (o : BitVec 32) (x0 : Vec Ideal S400x4 .f32) (xc : Vec Ideal S4x2000 .f32) (b : Kept) : Kept :=
  (picksOf (idsOf o b.2) (candOf i o x0 xc b.1, b)).2

theorem fold_picks {n : ℕ} (hn : n = 16) (ids : IVec S400x2016 32) (g : Fin n → Carried → Carried) (s : Carried)
    (hg : ∀ k s, g k s = pickOf ids (Scf.iv 0#32 1#32 k.val) s) : Scf.fold g s = picksOf ids s := by
  subst hn
  obtain rfl : g = fun k s => pickOf ids (Scf.iv 0#32 1#32 k.val) s := funext fun k => funext fun s => hg k s
  exact Scf.fold_eq _ _

/-- The slots before the first tile. -/
def kept0 : Kept := (k2_pay5 (F := Ideal), k2_pay6)

theorem tile1_eq (i : grid2.Coords) (x0 : Vec Ideal S400x4 .f32) (xc : Vec Ideal S4x2000 .f32) :
    (Scf.fold (fun (k : Fin k2_t1_loop.trips) (a : Carried) => ((k2_pay14 a.1, k2_pay12 k a.1 a.2.1, k2_pay13 k a.1 a.2.2) : Carried))
      (k2_pay8 i x0 xc, k2_pay5, k2_pay6)).2 = tileOf i 0#32 x0 xc kept0 :=
  congrArg Prod.snd (fold_picks rfl (idsOf 0#32 k2_pay6) _ _ (fun k s => rfl))

theorem tile2_eq (i : grid2.Coords) (x0 : Vec Ideal S400x4 .f32) (xc : Vec Ideal S4x2000 .f32) (b : FVec Ideal S400x16 .f32) (d v9 : IVec S400x16 32) (hv : v9 = iota .tc S400x16 32 [1] iota_S400x16_d1_w32) :
    (Scf.fold (fun (k : Fin k2_t2_loop.trips) (a : Carried) => ((k2_pay22 d a.1, k2_pay20 v9 k a.1 a.2.1, k2_pay21 v9 d k a.1 a.2.2) : Carried))
      (k2_pay16 (k2_pay2 x0) (k2_pay3 x0) (k2_pay4 i) b xc, b, d)).2 = tileOf i 2000#32 x0 xc (b, d) :=
  congrArg Prod.snd (fold_picks rfl (idsOf 2000#32 d) _ _ (fun k s => by subst hv; rfl))

theorem tile3_eq (i : grid2.Coords) (x0 : Vec Ideal S400x4 .f32) (xc : Vec Ideal S4x2000 .f32) (b : FVec Ideal S400x16 .f32) (d v9 : IVec S400x16 32) (hv : v9 = iota .tc S400x16 32 [1] iota_S400x16_d1_w32) :
    (Scf.fold (fun (k : Fin k2_t3_loop.trips) (a : Carried) => ((k2_pay31 d k2_pay24 a.1, k2_pay29 v9 k a.1 a.2.1, k2_pay30 v9 d k2_pay24 k a.1 a.2.2) : Carried))
      (k2_pay25 (k2_pay4 i) b (k2_pay23 (k2_pay2 x0) (k2_pay3 x0) xc) k2_pay24, b, d)).2 = tileOf i 4000#32 x0 xc (b, d) :=
  congrArg Prod.snd (fold_picks rfl (idsOf 4000#32 d) _ _ (fun k s => by subst hv; rfl))

theorem tile4_eq (i : grid2.Coords) (x0 : Vec Ideal S400x4 .f32) (xc : Vec Ideal S4x2000 .f32) (b : FVec Ideal S400x16 .f32) (d v9 : IVec S400x16 32) (hv : v9 = iota .tc S400x16 32 [1] iota_S400x16_d1_w32) :
    (Scf.fold (fun (k : Fin k2_t4_loop.trips) (a : Carried) => ((k2_pay39 d a.1, k2_pay37 v9 k a.1 a.2.1, k2_pay38 v9 d k a.1 a.2.2) : Carried))
      (k2_pay33 (k2_pay2 x0) (k2_pay3 x0) (k2_pay4 i) b xc, b, d)).2 = tileOf i 6000#32 x0 xc (b, d) :=
  congrArg Prod.snd (fold_picks rfl (idsOf 6000#32 d) _ _ (fun k s => by subst hv; rfl))

theorem tile5_eq (i : grid2.Coords) (x0 : Vec Ideal S400x4 .f32) (xc : Vec Ideal S4x2000 .f32) (b : FVec Ideal S400x16 .f32) (d v9 : IVec S400x16 32) (hv : v9 = iota .tc S400x16 32 [1] iota_S400x16_d1_w32) :
    (Scf.fold (fun (k : Fin k2_t5_loop.trips) (a : Carried) => ((k2_pay47 d a.1, k2_pay45 v9 k a.1 a.2.1, k2_pay46 v9 d k a.1 a.2.2) : Carried))
      (k2_pay41 (k2_pay2 x0) (k2_pay3 x0) (k2_pay4 i) b xc, b, d)).2 = tileOf i 8000#32 x0 xc (b, d) :=
  congrArg Prod.snd (fold_picks rfl (idsOf 8000#32 d) _ _ (fun k s => by subst hv; rfl))

/-- The five tiles of columns. -/
def tileCols (x1 : Vec Ideal S4x10000 .f32) (k : Fin 5) : Vec Ideal S4x2000 .f32 :=
  match k with
  | 0 => View.ld x1 (Rect.unit ![0, 0] S4x2000.size inb_S4x10000_S4x2000_0_0)
  | 1 => View.ld x1 (Rect.unit ![0, 2000] S4x2000.size inb_S4x10000_S4x2000_0_2000)
  | 2 => View.ld x1 (Rect.unit ![0, 4000] S4x2000.size inb_S4x10000_S4x2000_0_4000)
  | 3 => View.ld x1 (Rect.unit ![0, 6000] S4x2000.size inb_S4x10000_S4x2000_0_6000)
  | 4 => View.ld x1 (Rect.unit ![0, 8000] S4x2000.size inb_S4x10000_S4x2000_0_8000)

/-- The slots kept after the five tiles. -/
def keptOf (i : grid2.Coords) (x0 : Vec Ideal S400x4 .f32) (x1 : Vec Ideal S4x10000 .f32) : Kept :=
  tileOf i 8000#32 x0 (tileCols x1 4) (tileOf i 6000#32 x0 (tileCols x1 3) (tileOf i 4000#32 x0 (tileCols x1 2)
    (tileOf i 2000#32 x0 (tileCols x1 1) (tileOf i 0#32 x0 (tileCols x1 0) kept0))))

theorem out2_A_2_eq (c : Dev nD) (i : grid2.Coords) (a1 : Memref sig .tc .vmem S400x4 .f32) (h1 : a1.IsWhole) (a2 : Memref sig .tc .vmem S4x10000 .f32) (h2 : a2.IsWhole) (a3 : Memref sig .tc .vmem S400x16 .i32) (h3 : a3.IsWhole) (a4 : Memref sig .tc .vmem S400x16 .i32) (h4 : a4.IsWhole)
    (x0 : Vec Ideal S400x4 .f32) (x1 : Vec Ideal S4x10000 .f32) :
    out2_A_2 c i a1 h1 a2 h2 a3 h3 a4 h4 x0 x1 = k2_pay49 (keptOf i x0 x1).1 (keptOf i x0 x1).2 := by
  unfold out2_A_2
  rw [View.read_writes_eq_canon _ _ _ (cover2_A_2 c i a1 h1 a2 h2 a3 h3 a4 h4 x0 x1)]
  unfold kernelRun2_A
  dsimp only
  rw [View.canon_unit_zero hz]
  sl_unfold_words
  simp only [View.readAt_eq_ld, h1.read_unread, h2.read_unread, View.ld_unit_zero (S := S400x4) hz, tile1_eq]
  generalize hv : iota .tc S400x16 32 [1] iota_S400x16_d1_w32 = v9
  simp only [fun xc b d => tile2_eq i x0 xc b d v9 hv.symm, fun xc b d => tile3_eq i x0 xc b d v9 hv.symm,
    fun xc b d => tile4_eq i x0 xc b d v9 hv.symm, fun xc b d => tile5_eq i x0 xc b d v9 hv.symm]
  rfl

theorem out2_A_3_eq (c : Dev nD) (i : grid2.Coords) (a1 : Memref sig .tc .vmem S400x4 .f32) (h1 : a1.IsWhole) (a2 : Memref sig .tc .vmem S4x10000 .f32) (h2 : a2.IsWhole) (a3 : Memref sig .tc .vmem S400x16 .i32) (h3 : a3.IsWhole) (a4 : Memref sig .tc .vmem S400x16 .i32) (h4 : a4.IsWhole)
    (x0 : Vec Ideal S400x4 .f32) (x1 : Vec Ideal S4x10000 .f32) :
    out2_A_3 c i a1 h1 a2 h2 a3 h3 a4 h4 x0 x1 = k2_pay50 (keptOf i x0 x1).1 (keptOf i x0 x1).2 := by
  unfold out2_A_3
  rw [View.read_writes_eq_canon _ _ _ (cover2_A_3 c i a1 h1 a2 h2 a3 h3 a4 h4 x0 x1)]
  unfold kernelRun2_A
  dsimp only
  rw [View.canon_unit_zero hz]
  sl_unfold_words
  simp only [View.readAt_eq_ld, h1.read_unread, h2.read_unread, View.ld_unit_zero (S := S400x4) hz, tile1_eq]
  generalize hv : iota .tc S400x16 32 [1] iota_S400x16_d1_w32 = v9
  simp only [fun xc b d => tile2_eq i x0 xc b d v9 hv.symm, fun xc b d => tile3_eq i x0 xc b d v9 hv.symm,
    fun xc b d => tile4_eq i x0 xc b d v9 hv.symm, fun xc b d => tile5_eq i x0 xc b d v9 hv.symm]
  rfl

end Cert.KernelIdeal.Value

end
-- ==== Proof.KSel.lean ====
module

public import proofs.«01_k».proof.Proof.Region2
public import proofs.«01_k».proof.Proof.Select

@[expose] public section

set_option maxRecDepth 16384

/-! A tile's sixteen picks as rounds of the selection: the slots kept after a tile are the selection among the columns
seen so far. -/

noncomputable section

namespace Cert.KernelIdeal.Value

open Idealize.ShloMosaic Idealize.ShloMosaic.TcCoe Idealize.SL.Sem
open Cert.KernelIdeal Cert.KernelIdeal.Gen
open Cert.Select

theorem inf_bits : Ideal.ofBits .f32 2139095040#32 = ⊤ := by
  simp [Ideal.ofBits, Ideal.ieee]

theorem select_eq {α : Type} {w : ℕ} (a b : BitVec w) (x y : α) :
    Scalar.select (IntOp.cmpi .eq a b) x y = if a = b then x else y := by
  by_cases h : a = b
  · rw [if_pos h, h]; unfold Scalar.select IntOp.cmpi; simp
  · rw [if_neg h]
    have : IntOp.cmpi .eq a b = 0#1 := by
      show BitVec.ofBool (a == b) = 0#1
      rw [beq_eq_false_iff_ne.mpr h]; rfl
    rw [this]; rfl

theorem fold_min_spec {ι : Type} [DecidableEq ι] (f : ι → EReal) (s : Finset ι) (z : EReal) :
    s.fold min z f ≤ z ∧ (∀ i ∈ s, s.fold min z f ≤ f i) ∧ (s.fold min z f = z ∨ ∃ i ∈ s, s.fold min z f = f i) := by
  induction s using Finset.induction_on with
  | empty => simp
  | insert a s ha ih =>
    obtain ⟨h1, h2, h3⟩ := ih
    rw [Finset.fold_insert ha]
    refine ⟨(min_le_right _ _).trans h1, fun i hi => ?_, ?_⟩
    · rcases Finset.mem_insert.mp hi with rfl | hi
      · exact min_le_left _ _
      · exact (min_le_right _ _).trans (h2 i hi)
    · rcases min_choice (f a) (s.fold min z f) with h | h
      · exact Or.inr ⟨a, Finset.mem_insert_self _ _, h⟩
      · rw [h]
        rcases h3 with h3 | ⟨i, hi, h3⟩
        · exact Or.inl h3
        · exact Or.inr ⟨i, Finset.mem_insert_of_mem hi, h3⟩

theorem toInt_minsi (a b : BitVec 32) : (IntOp.minsi a b).toInt = min a.toInt b.toInt := by
  show (if a.slt b then a else b).toInt = _
  by_cases h : a.toInt < b.toInt
  · rw [show a.slt b = true from decide_eq_true h, if_pos rfl, min_eq_left h.le]
  · rw [show a.slt b = false from decide_eq_false h, if_neg Bool.false_ne_true, min_eq_right (not_lt.mp h)]

theorem fold_minsi_spec {ι : Type} [DecidableEq ι] (f : ι → BitVec 32) (s : Finset ι) (z : BitVec 32) :
    (∀ i ∈ s, (s.fold IntOp.minsi z f).toInt ≤ (f i).toInt) ∧
      ((s.fold IntOp.minsi z f) = z ∨ ∃ i ∈ s, s.fold IntOp.minsi z f = f i) ∧ (s.fold IntOp.minsi z f).toInt ≤ z.toInt := by
  induction s using Finset.induction_on with
  | empty => simp
  | insert a s ha ih =>
    obtain ⟨h2, h3, h1⟩ := ih
    rw [Finset.fold_insert ha]
    refine ⟨fun i hi => ?_, ?_, ?_⟩
    · rw [toInt_minsi]
      rcases Finset.mem_insert.mp hi with rfl | hi
      · exact min_le_left _ _
      · exact (min_le_right _ _).trans (h2 i hi)
    · show (if (f a).slt (s.fold IntOp.minsi z f) then f a else s.fold IntOp.minsi z f) = z ∨ ∃ i ∈ insert a s, (if (f a).slt (s.fold IntOp.minsi z f) then f a else s.fold IntOp.minsi z f) = f i
      split
      · exact Or.inr ⟨a, Finset.mem_insert_self _ _, rfl⟩
      · rcases h3 with h3 | ⟨i, hi, h3⟩
        · exact Or.inl h3
        · exact Or.inr ⟨i, Finset.mem_insert_of_mem hi, h3⟩
    · rw [toInt_minsi]
      exact (min_le_right _ _).trans h1

theorem foldl_finRange_inv {σ : Type} : ∀ (n : ℕ) (g : Fin n → σ → σ) (P : ℕ → σ → Prop) (s : σ), P 0 s →
    (∀ (k : Fin n) s, P k.val s → P (k.val + 1) (g k s)) → P n ((List.finRange n).foldl (fun a k => g k a) s)
  | 0, _, _, _, h, _ => by simpa using h
  | n + 1, g, P, s, h, hs => by
    rw [List.finRange_succ, List.foldl_cons, List.foldl_map]
    exact foldl_finRange_inv n (fun k => g k.succ) (fun k => P (k + 1)) (g 0 s) (hs 0 s h) fun k s hk => hs k.succ s hk

/-! The vectors of a pick at a row. -/

theorem minOf_apply (v : FVec Ideal S400x2016 .f32) (r : Fin 400) :
    minOf v (ix2 r 0) = Finset.fold min ⊤ (fun x => v (ix2 r x)) Finset.univ := by
  rw [← inf_bits]
  pointwise [minOf]

theorem argOf_apply (ids : IVec S400x2016 32) (v : FVec Ideal S400x2016 .f32) (r : Fin 400) :
    argOf ids v (ix2 r 0) = Finset.fold IntOp.minsi 2147483647#32
      (fun x => if v (ix2 r x) = minOf v (ix2 r 0) then ids (ix2 r x) else 2147483647#32) Finset.univ := by
  pointwise [argOf]

theorem candOf_apply (i : grid2.Coords) (o : BitVec 32) (x0 : Vec Ideal S400x4 .f32) (xc : Vec Ideal S4x2000 .f32)
    (b : FVec Ideal S400x16 .f32) (r : Fin 400) (k : Fin 2016) :
    candOf i o x0 xc b (ix2 r k) = if h : k.val < 16 then b (ix2 r ⟨k.val, h⟩) else maskedOf i o x0 xc (ix2 r ⟨k.val - 16, by omega⟩) := by
  pointwise [candOf]

theorem idsOf_apply (o : BitVec 32) (d : IVec S400x16 32) (r : Fin 400) (k : Fin 2016) :
    idsOf o d (ix2 r k) = if h : k.val < 16 then d (ix2 r ⟨k.val, h⟩) else o + BitVec.ofNat 32 (k.val - 16) := by
  pointwise [idsOf, colsAt]
  rfl

theorem pick_cand (ids : IVec S400x2016 32) (t : BitVec 32) (s : Carried) (r : Fin 400) (k : Fin 2016) :
    (pickOf ids t s).1 (ix2 r k) = if ids (ix2 r k) = argOf ids s.1 (ix2 r 0) then ⊤ else s.1 (ix2 r k) := by
  rw [← inf_bits, ← select_eq]
  pointwise [pickOf]

theorem pick_val (ids : IVec S400x2016 32) (t : BitVec 32) (s : Carried) (r : Fin 400) (k : Fin 16) :
    (pickOf ids t s).2.1 (ix2 r k) = if BitVec.ofNat 32 k.val = t then minOf s.1 (ix2 r 0) else s.2.1 (ix2 r k) := by
  rw [← select_eq]
  pointwise [pickOf, slotAt]

theorem pick_idx (ids : IVec S400x2016 32) (t : BitVec 32) (s : Carried) (r : Fin 400) (k : Fin 16) :
    (pickOf ids t s).2.2 (ix2 r k) = if BitVec.ofNat 32 k.val = t then argOf ids s.1 (ix2 r 0) else s.2.2 (ix2 r k) := by
  rw [← select_eq]
  pointwise [pickOf, slotAt]

theorem iv_eq (k : ℕ) : Scf.iv 0#32 1#32 k = BitVec.ofNat 32 k := by
  unfold Scf.iv; simp

theorem ofNat_inj16 {k t : ℕ} (hk : k < 16) (ht : t < 16) (h : BitVec.ofNat 32 k = BitVec.ofNat 32 t) : k = t := by
  have := congrArg BitVec.toNat h
  simp only [BitVec.toNat_ofNat] at this
  omega

/-- A tile's sixteen picks of a row are sixteen rounds of the selection. -/
theorem picks_slots (ids : IVec S400x2016 32) (s : Carried) (r : Fin 400) {D : ℕ → EReal} {B : ℕ}
    (hC : Cand D B (fun p : Fin 2016 => s.1 (ix2 r p)) (fun p => (ids (ix2 r p)).toInt)) (k : Fin 16) :
    Slot D B k.val ((picksOf ids s).2.1 (ix2 r k)) ((picksOf ids s).2.2 (ix2 r k)).toInt := by
  have key := foldl_finRange_inv 16 (fun (k : Fin 16) acc => pickOf ids (Scf.iv 0#32 1#32 k.val) acc)
    (fun t (s' : Carried) =>
      After D B (fun p : Fin 2016 => s.1 (ix2 r p)) (fun p => (ids (ix2 r p)).toInt) t (fun p => s'.1 (ix2 r p)) ∧
      ∀ k : Fin 16, k.val < t → Slot D B k.val (s'.2.1 (ix2 r k)) (s'.2.2 (ix2 r k)).toInt) s
    ⟨after_zero _ _ _ _, fun k hk => absurd hk (Nat.not_lt_zero _)⟩ ?_
  · exact key.2 k k.isLt
  · rintro ⟨t, ht⟩ s' ⟨hA, hS⟩
    obtain ⟨-, m2, m3⟩ := fold_min_spec (fun x : Fin 2016 => s'.1 (ix2 r x)) Finset.univ ⊤
    rw [← minOf_apply] at m2 m3
    obtain ⟨a2, a3, a1⟩ := fold_minsi_spec
      (fun x : Fin 2016 => if s'.1 (ix2 r x) = minOf s'.1 (ix2 r 0) then ids (ix2 r x) else 2147483647#32) Finset.univ 2147483647#32
    rw [← argOf_apply] at a1 a2 a3
    have hmin : ∃ p : Fin 2016, s'.1 (ix2 r p) = minOf s'.1 (ix2 r 0) := by
      rcases m3 with h | ⟨p, -, h⟩
      · exact ⟨0, le_antisymm (h ▸ le_top) (m2 0 (Finset.mem_univ _))⟩
      · exact ⟨p, h.symm⟩
    have hle : ∀ p : Fin 2016, s'.1 (ix2 r p) = minOf s'.1 (ix2 r 0) → (argOf ids s'.1 (ix2 r 0)).toInt ≤ (ids (ix2 r p)).toInt := by
      intro p hp
      have := a2 p (Finset.mem_univ _)
      rwa [if_pos hp] at this
    have hmax : ∀ a : BitVec 32, a.toInt ≤ (2147483647#32).toInt := by
      intro a
      have h := BitVec.two_mul_toInt_lt (x := a)
      have e : (2147483647#32 : BitVec 32).toInt = 2147483647 := by decide
      rw [e]
      omega
    have hex : ∃ p : Fin 2016, s'.1 (ix2 r p) = minOf s'.1 (ix2 r 0) ∧ (ids (ix2 r p)).toInt = (argOf ids s'.1 (ix2 r 0)).toInt := by
      have hsent : argOf ids s'.1 (ix2 r 0) = 2147483647#32 → ∃ p : Fin 2016, s'.1 (ix2 r p) = minOf s'.1 (ix2 r 0) ∧ (ids (ix2 r p)).toInt = (argOf ids s'.1 (ix2 r 0)).toInt := by
        intro h
        obtain ⟨p, hp⟩ := hmin
        refine ⟨p, hp, le_antisymm ?_ (hle p hp)⟩
        rw [h]
        exact hmax _
      rcases a3 with h | ⟨p, -, h⟩
      · exact hsent h
      · by_cases hp : s'.1 (ix2 r p) = minOf s'.1 (ix2 r 0)
        · rw [if_pos hp] at h
          exact ⟨p, hp, by rw [h]⟩
        · rw [if_neg hp] at h
          exact hsent h
    obtain ⟨hslot, hafter⟩ := pick hC ht hA (m := minOf s'.1 (ix2 r 0)) (fun p => m2 p (Finset.mem_univ _))
      (i := (argOf ids s'.1 (ix2 r 0)).toInt) hex hle
      (v' := fun p => (pickOf ids (Scf.iv 0#32 1#32 t) s').1 (ix2 r p)) (by
        intro p
        show (pickOf ids (Scf.iv 0#32 1#32 t) s').1 (ix2 r p) = _
        rw [pick_cand]
        simp only [BitVec.toInt_inj])
    refine ⟨hafter, fun k hk => ?_⟩
    show Slot D B k.val ((pickOf ids (Scf.iv 0#32 1#32 t) s').2.1 (ix2 r k)) ((pickOf ids (Scf.iv 0#32 1#32 t) s').2.2 (ix2 r k)).toInt
    rw [pick_val, pick_idx, iv_eq]
    by_cases e : k.val = t
    · subst e
      rw [if_pos rfl, if_pos rfl]
      exact hslot
    · rw [if_neg fun h => e (ofNat_inj16 k.isLt ht h), if_neg fun h => e (ofNat_inj16 k.isLt ht h)]
      exact hS k (lt_of_le_of_ne (Nat.lt_succ_iff.mp hk) e)

/-- A tile takes the selection among the first `B` columns to the selection among the first `B + 2000`. -/
theorem tile_slots (i : grid2.Coords) (x0 : Vec Ideal S400x4 .f32) (xc : Vec Ideal S4x2000 .f32) (b : Kept) (r : Fin 400)
    {D : ℕ → EReal} {B : ℕ} (hB : B + 2000 ≤ 10000)
    (hD : ∀ l : Fin 2000, maskedOf i (BitVec.ofNat 32 B) x0 xc (ix2 r l) = D (B + l.val))
    (hb : ∀ k : Fin 16, Slot D B k.val (b.1 (ix2 r k)) (b.2 (ix2 r k)).toInt) (k : Fin 16) :
    Slot D (B + 2000) k.val ((tileOf i (BitVec.ofNat 32 B) x0 xc b).1 (ix2 r k)) ((tileOf i (BitVec.ofNat 32 B) x0 xc b).2 (ix2 r k)).toInt := by
  have hid : ∀ l : ℕ, l < 2000 → (BitVec.ofNat 32 B + BitVec.ofNat 32 l).toInt = ((B + l : ℕ) : ℤ) := by
    intro l hl
    rw [← BitVec.ofNat_add, BitVec.toInt_ofNat']
    rw [Int.bmod_def]
    omega
  refine picks_slots _ _ r (cand_next (B := B) (by omega) ?_ ?_ ?_) k
  · intro p
    dsimp only
    rw [candOf_apply, idsOf_apply]
    by_cases h : p.val < 16
    · rw [dif_pos h, dif_pos h]
      exact Or.inl ⟨p.val, h, hb ⟨p.val, h⟩⟩
    · rw [dif_neg h, dif_neg h]
      refine Or.inr ⟨B + (p.val - 16), by omega, by omega, hD _, hid _ (by omega)⟩
  · intro k hk
    refine ⟨⟨k, by omega⟩, ?_⟩
    dsimp only
    rw [candOf_apply, idsOf_apply, dif_pos hk, dif_pos hk]
    exact hb ⟨k, hk⟩
  · intro j h1 h2
    have e : ¬ (j - B + 16 < 16) := by omega
    refine ⟨⟨j - B + 16, by omega⟩, ?_⟩
    dsimp only
    rw [candOf_apply, idsOf_apply, dif_neg e, dif_neg e]
    refine ⟨(hD _).trans ?_, (hid _ (by dsimp only; omega)).trans ?_⟩
    · exact congrArg D (by dsimp only; omega)
    · exact congrArg Nat.cast (by dsimp only; omega)

/-- The slots kept after the five tiles are the selection among all columns. -/
theorem kept_slots (i : grid2.Coords) (x0 : Vec Ideal S400x4 .f32) (x1 : Vec Ideal S4x10000 .f32) (r : Fin 400) {D : ℕ → EReal}
    (hD : ∀ (q : Fin 5) (l : Fin 2000), maskedOf i (BitVec.ofNat 32 (2000 * q.val)) x0 (tileCols x1 q) (ix2 r l) = D (2000 * q.val + l.val)) (k : Fin 16) :
    Slot D 10000 k.val ((keptOf i x0 x1).1 (ix2 r k)) ((keptOf i x0 x1).2 (ix2 r k)).toInt := by
  refine tile_slots i x0 _ _ r (B := 8000) (by omega) (hD 4) (fun k => ?_) k
  refine tile_slots i x0 _ _ r (B := 6000) (by omega) (hD 3) (fun k => ?_) k
  refine tile_slots i x0 _ _ r (B := 4000) (by omega) (hD 2) (fun k => ?_) k
  refine tile_slots i x0 _ _ r (B := 2000) (by omega) (hD 1) (fun k => ?_) k
  refine tile_slots i x0 _ _ r (B := 0) (by omega) (hD 0) (fun k => ?_) k
  have e : kept0.1 (ix2 r k) = ⊤ := by
    rw [← inf_bits]
    show (k2_pay5 (F := Ideal)) (ix2 r k) = _
    pointwise [k2_pay5]
  rw [e]
  exact slot_nil _ _ _

end Cert.KernelIdeal.Value

end
-- ==== Proof.Blocks.lean ====
module

public import proofs.«01_k».proof.Proof.Region0

@[expose] public section

set_option maxRecDepth 16384

/-! The blocks of the first two regions' windows as parts of their arrays. -/

noncomputable section

namespace Cert.KernelIdeal.Value

open Idealize.ShloMosaic Idealize.ShloMosaic.TcCoe Idealize.SL.Sem
open Idealize.ShloMosaic.Pipeline (Dat)
open Cert.KernelIdeal Cert.KernelIdeal.Gen

/-- Row `r` of the `t`-th block of 400 rows. -/
def row (t : ℕ) (r : Fin 400) (h : t < 25) : Fin 10000 := ⟨400 * t + r.val, by omega⟩

/-- Row `r` of point `t`'s block of window 0 is row `400 t + r` of its array. -/
theorem blk0_0 (c : Dev nD) (X : Vec Ideal S10000x256 .f32) (t : Fin cfg0.N) (r : Fin 400) (l : Fin 256) :
    ((cfg0.win 0).blk t).view.read (Elt Ideal) (X : Buf (Elt Ideal) ((c : Thread nD τ).loc main_arg0)) (ix2 r l) = X (ix2 (row t.val r (t.isLt.trans_eq N_0)) l) := by
  have hi : win0_0.index t 0 = t.val ∧ win0_0.index t 1 = 0 := by
    revert t; decide +kernel
  rw [View.read_apply]
  refine congrArg X (funext fun a => Fin.ext ?_)
  match a with
  | ⟨0, _⟩ => show win0_0.index t 0 * 400 + 1 * r.val = 400 * t.val + r.val; rw [hi.1]; omega
  | ⟨1, _⟩ => show win0_0.index t 1 * 256 + 1 * l.val = l.val; rw [hi.2]; omega

/-- Row `r` of point `t`'s block of window 1 is row `400 t + r` of its array. -/
theorem blk0_1 (c : Dev nD) (X : Vec Ideal S10000x256 .f32) (t : Fin cfg0.N) (r : Fin 400) (l : Fin 256) :
    ((cfg0.win 1).blk t).view.read (Elt Ideal) (X : Buf (Elt Ideal) ((c : Thread nD τ).loc main_arg1)) (ix2 r l) = X (ix2 (row t.val r (t.isLt.trans_eq N_0)) l) := by
  have hi : win0_1.index t 0 = t.val ∧ win0_1.index t 1 = 0 := by
    revert t; decide +kernel
  rw [View.read_apply]
  refine congrArg X (funext fun a => Fin.ext ?_)
  match a with
  | ⟨0, _⟩ => show win0_1.index t 0 * 400 + 1 * r.val = 400 * t.val + r.val; rw [hi.1]; omega
  | ⟨1, _⟩ => show win0_1.index t 1 * 256 + 1 * l.val = l.val; rw [hi.2]; omega

/-- Window 2's block is its whole array at every point. -/
theorem blk0_2 (c : Dev nD) (X : Vec Ideal S256x256 .f32) (t : Fin cfg0.N) (r : Fin 256) (l : Fin 256) :
    ((cfg0.win 2).blk t).view.read (Elt Ideal) (X : Buf (Elt Ideal) ((c : Thread nD τ).loc main_v0)) (ix2 r l) = X (ix2 r l) := by
  have hi : win0_2.index t 0 = 0 ∧ win0_2.index t 1 = 0 := by
    revert t; decide +kernel
  rw [View.read_apply]
  refine congrArg X (funext fun a => Fin.ext ?_)
  match a with
  | ⟨0, _⟩ => show win0_2.index t 0 * 256 + 1 * r.val = r.val; rw [hi.1]; omega
  | ⟨1, _⟩ => show win0_2.index t 1 * 256 + 1 * l.val = l.val; rw [hi.2]; omega

/-- Window 3's block is its whole array at every point. -/
theorem blk0_3 (c : Dev nD) (X : Vec Ideal S256x256 .f32) (t : Fin cfg0.N) (r : Fin 256) (l : Fin 256) :
    ((cfg0.win 3).blk t).view.read (Elt Ideal) (X : Buf (Elt Ideal) ((c : Thread nD τ).loc main_v1)) (ix2 r l) = X (ix2 r l) := by
  have hi : win0_3.index t 0 = 0 ∧ win0_3.index t 1 = 0 := by
    revert t; decide +kernel
  rw [View.read_apply]
  refine congrArg X (funext fun a => Fin.ext ?_)
  match a with
  | ⟨0, _⟩ => show win0_3.index t 0 * 256 + 1 * r.val = r.val; rw [hi.1]; omega
  | ⟨1, _⟩ => show win0_3.index t 1 * 256 + 1 * l.val = l.val; rw [hi.2]; omega

/-- Row `r` of point `t`'s block of window 4 is row `400 t + r` of its array. -/
theorem blk0_4 (c : Dev nD) (X : Vec Ideal S10000x256 .f32) (t : Fin cfg0.N) (r : Fin 400) (l : Fin 256) :
    ((cfg0.win 4).blk t).view.read (Elt Ideal) (X : Buf (Elt Ideal) ((c : Thread nD τ).loc main_v2_0)) (ix2 r l) = X (ix2 (row t.val r (t.isLt.trans_eq N_0)) l) := by
  have hi : win0_4.index t 0 = t.val ∧ win0_4.index t 1 = 0 := by
    revert t; decide +kernel
  rw [View.read_apply]
  refine congrArg X (funext fun a => Fin.ext ?_)
  match a with
  | ⟨0, _⟩ => show win0_4.index t 0 * 400 + 1 * r.val = 400 * t.val + r.val; rw [hi.1]; omega
  | ⟨1, _⟩ => show win0_4.index t 1 * 256 + 1 * l.val = l.val; rw [hi.2]; omega

/-- Row `r` of point `t`'s block of window 5 is row `400 t + r` of its array. -/
theorem blk0_5 (c : Dev nD) (X : Vec Ideal S10000x256 .f32) (t : Fin cfg0.N) (r : Fin 400) (l : Fin 256) :
    ((cfg0.win 5).blk t).view.read (Elt Ideal) (X : Buf (Elt Ideal) ((c : Thread nD τ).loc main_v2_1)) (ix2 r l) = X (ix2 (row t.val r (t.isLt.trans_eq N_0)) l) := by
  have hi : win0_5.index t 0 = t.val ∧ win0_5.index t 1 = 0 := by
    revert t; decide +kernel
  rw [View.read_apply]
  refine congrArg X (funext fun a => Fin.ext ?_)
  match a with
  | ⟨0, _⟩ => show win0_5.index t 0 * 400 + 1 * r.val = 400 * t.val + r.val; rw [hi.1]; omega
  | ⟨1, _⟩ => show win0_5.index t 1 * 256 + 1 * l.val = l.val; rw [hi.2]; omega

/-- Every index of window 4's array lies in the block of the point that its row belongs to. -/
theorem covered0_4 (i : S10000x256.Idx) : ∃ t : Fin cfg0.N, (cfg0.win 4).flush t = true ∧ i ∈ ((cfg0.win 4).blk t).view.set := by
  have h0 : (i 0 : Nat) < 10000 := (i 0).isLt
  have h1 : (i 1 : Nat) < 256 := (i 1).isLt
  have hN : cfg0.N = 25 := N_0
  refine ⟨⟨(i 0 : Nat) / 400, by omega⟩, flush0_4 _, ?_⟩
  generalize ht : (⟨(i 0 : Nat) / 400, by omega⟩ : Fin cfg0.N) = t
  have htv : t.val = (i 0 : Nat) / 400 := by rw [← ht]
  have e : win0_4.index t 0 = t.val ∧ win0_4.index t 1 = 0 := by
    clear ht htv; revert t; decide +kernel
  have e2 : win0_4.xsize (grid0.coords t) 0 = 400 ∧ win0_4.xsize (grid0.coords t) 1 = 256 := by
    clear ht htv e; revert t; decide +kernel
  show i ∈ ((View.whole main_v2_0).slice (win0_4.rect t)).set
  rw [View.set_slice_whole, Rect.mem_set_unit]
  intro a
  match a with
  | ⟨0, _⟩ => show win0_4.index t 0 * 400 ≤ (i 0 : Nat) ∧ (i 0 : Nat) < win0_4.index t 0 * 400 + win0_4.xsize (grid0.coords t) 0
              rw [e.1, e2.1]; omega
  | ⟨1, _⟩ => show win0_4.index t 1 * 256 ≤ (i 1 : Nat) ∧ (i 1 : Nat) < win0_4.index t 1 * 256 + win0_4.xsize (grid0.coords t) 1
              rw [e.2, e2.2]; omega

/-- Every index of window 5's array lies in the block of the point that its row belongs to. -/
theorem covered0_5 (i : S10000x256.Idx) : ∃ t : Fin cfg0.N, (cfg0.win 5).flush t = true ∧ i ∈ ((cfg0.win 5).blk t).view.set := by
  have h0 : (i 0 : Nat) < 10000 := (i 0).isLt
  have h1 : (i 1 : Nat) < 256 := (i 1).isLt
  have hN : cfg0.N = 25 := N_0
  refine ⟨⟨(i 0 : Nat) / 400, by omega⟩, flush0_5 _, ?_⟩
  generalize ht : (⟨(i 0 : Nat) / 400, by omega⟩ : Fin cfg0.N) = t
  have htv : t.val = (i 0 : Nat) / 400 := by rw [← ht]
  have e : win0_5.index t 0 = t.val ∧ win0_5.index t 1 = 0 := by
    clear ht htv; revert t; decide +kernel
  have e2 : win0_5.xsize (grid0.coords t) 0 = 400 ∧ win0_5.xsize (grid0.coords t) 1 = 256 := by
    clear ht htv e; revert t; decide +kernel
  show i ∈ ((View.whole main_v2_1).slice (win0_5.rect t)).set
  rw [View.set_slice_whole, Rect.mem_set_unit]
  intro a
  match a with
  | ⟨0, _⟩ => show win0_5.index t 0 * 400 ≤ (i 0 : Nat) ∧ (i 0 : Nat) < win0_5.index t 0 * 400 + win0_5.xsize (grid0.coords t) 0
              rw [e.1, e2.1]; omega
  | ⟨1, _⟩ => show win0_5.index t 1 * 256 ≤ (i 1 : Nat) ∧ (i 1 : Nat) < win0_5.index t 1 * 256 + win0_5.xsize (grid0.coords t) 1
              rw [e.2, e2.2]; omega

/-- Row `r` of point `t`'s block of window 0 is row `400 t + r` of its array. -/
theorem blk1_0 (c : Dev nD) (X : Vec Ideal S10000x256 .f32) (t : Fin cfg1.N) (r : Fin 400) (l : Fin 256) :
    ((cfg1.win 0).blk t).view.read (Elt Ideal) (X : Buf (Elt Ideal) ((c : Thread nD τ).loc main_v2_0)) (ix2 r l) = X (ix2 (row t.val r (t.isLt.trans_eq N_1)) l) := by
  have hi : win1_0.index t 0 = t.val ∧ win1_0.index t 1 = 0 := by
    revert t; decide +kernel
  rw [View.read_apply]
  refine congrArg X (funext fun a => Fin.ext ?_)
  match a with
  | ⟨0, _⟩ => show win1_0.index t 0 * 400 + 1 * r.val = 400 * t.val + r.val; rw [hi.1]; omega
  | ⟨1, _⟩ => show win1_0.index t 1 * 256 + 1 * l.val = l.val; rw [hi.2]; omega

/-- Row `r` of point `t`'s block of window 1 is row `400 t + r` of its array. -/
theorem blk1_1 (c : Dev nD) (X : Vec Ideal S10000x256 .f32) (t : Fin cfg1.N) (r : Fin 400) (l : Fin 256) :
    ((cfg1.win 1).blk t).view.read (Elt Ideal) (X : Buf (Elt Ideal) ((c : Thread nD τ).loc main_v2_1)) (ix2 r l) = X (ix2 (row t.val r (t.isLt.trans_eq N_1)) l) := by
  have hi : win1_1.index t 0 = t.val ∧ win1_1.index t 1 = 0 := by
    revert t; decide +kernel
  rw [View.read_apply]
  refine congrArg X (funext fun a => Fin.ext ?_)
  match a with
  | ⟨0, _⟩ => show win1_1.index t 0 * 400 + 1 * r.val = 400 * t.val + r.val; rw [hi.1]; omega
  | ⟨1, _⟩ => show win1_1.index t 1 * 256 + 1 * l.val = l.val; rw [hi.2]; omega

/-- Window 2's block is its whole array at every point. -/
theorem blk1_2 (c : Dev nD) (X : Vec Ideal S4x256 .f32) (t : Fin cfg1.N) (r : Fin 4) (l : Fin 256) :
    ((cfg1.win 2).blk t).view.read (Elt Ideal) (X : Buf (Elt Ideal) ((c : Thread nD τ).loc main_v39)) (ix2 r l) = X (ix2 r l) := by
  have hi : win1_2.index t 0 = 0 ∧ win1_2.index t 1 = 0 := by
    revert t; decide +kernel
  rw [View.read_apply]
  refine congrArg X (funext fun a => Fin.ext ?_)
  match a with
  | ⟨0, _⟩ => show win1_2.index t 0 * 4 + 1 * r.val = r.val; rw [hi.1]; omega
  | ⟨1, _⟩ => show win1_2.index t 1 * 256 + 1 * l.val = l.val; rw [hi.2]; omega

/-- Row `r` of point `t`'s block of window 3 is row `400 t + r` of its array. -/
theorem blk1_3 (c : Dev nD) (X : Vec Ideal S10000x256 .f32) (t : Fin cfg1.N) (r : Fin 400) (l : Fin 256) :
    ((cfg1.win 3).blk t).view.read (Elt Ideal) (X : Buf (Elt Ideal) ((c : Thread nD τ).loc main_v40_0)) (ix2 r l) = X (ix2 (row t.val r (t.isLt.trans_eq N_1)) l) := by
  have hi : win1_3.index t 0 = t.val ∧ win1_3.index t 1 = 0 := by
    revert t; decide +kernel
  rw [View.read_apply]
  refine congrArg X (funext fun a => Fin.ext ?_)
  match a with
  | ⟨0, _⟩ => show win1_3.index t 0 * 400 + 1 * r.val = 400 * t.val + r.val; rw [hi.1]; omega
  | ⟨1, _⟩ => show win1_3.index t 1 * 256 + 1 * l.val = l.val; rw [hi.2]; omega

/-- Row `r` of point `t`'s block of window 4 is row `400 t + r` of its array. -/
theorem blk1_4 (c : Dev nD) (X : Vec Ideal S10000x256 .f32) (t : Fin cfg1.N) (r : Fin 400) (l : Fin 256) :
    ((cfg1.win 4).blk t).view.read (Elt Ideal) (X : Buf (Elt Ideal) ((c : Thread nD τ).loc main_v40_1)) (ix2 r l) = X (ix2 (row t.val r (t.isLt.trans_eq N_1)) l) := by
  have hi : win1_4.index t 0 = t.val ∧ win1_4.index t 1 = 0 := by
    revert t; decide +kernel
  rw [View.read_apply]
  refine congrArg X (funext fun a => Fin.ext ?_)
  match a with
  | ⟨0, _⟩ => show win1_4.index t 0 * 400 + 1 * r.val = 400 * t.val + r.val; rw [hi.1]; omega
  | ⟨1, _⟩ => show win1_4.index t 1 * 256 + 1 * l.val = l.val; rw [hi.2]; omega

/-- Every index of window 3's array lies in the block of the point that its row belongs to. -/
theorem covered1_3 (i : S10000x256.Idx) : ∃ t : Fin cfg1.N, (cfg1.win 3).flush t = true ∧ i ∈ ((cfg1.win 3).blk t).view.set := by
  have h0 : (i 0 : Nat) < 10000 := (i 0).isLt
  have h1 : (i 1 : Nat) < 256 := (i 1).isLt
  have hN : cfg1.N = 25 := N_1
  refine ⟨⟨(i 0 : Nat) / 400, by omega⟩, flush1_3 _, ?_⟩
  generalize ht : (⟨(i 0 : Nat) / 400, by omega⟩ : Fin cfg1.N) = t
  have htv : t.val = (i 0 : Nat) / 400 := by rw [← ht]
  have e : win1_3.index t 0 = t.val ∧ win1_3.index t 1 = 0 := by
    clear ht htv; revert t; decide +kernel
  have e2 : win1_3.xsize (grid1.coords t) 0 = 400 ∧ win1_3.xsize (grid1.coords t) 1 = 256 := by
    clear ht htv e; revert t; decide +kernel
  show i ∈ ((View.whole main_v40_0).slice (win1_3.rect t)).set
  rw [View.set_slice_whole, Rect.mem_set_unit]
  intro a
  match a with
  | ⟨0, _⟩ => show win1_3.index t 0 * 400 ≤ (i 0 : Nat) ∧ (i 0 : Nat) < win1_3.index t 0 * 400 + win1_3.xsize (grid1.coords t) 0
              rw [e.1, e2.1]; omega
  | ⟨1, _⟩ => show win1_3.index t 1 * 256 ≤ (i 1 : Nat) ∧ (i 1 : Nat) < win1_3.index t 1 * 256 + win1_3.xsize (grid1.coords t) 1
              rw [e.2, e2.2]; omega

/-- Every index of window 4's array lies in the block of the point that its row belongs to. -/
theorem covered1_4 (i : S10000x256.Idx) : ∃ t : Fin cfg1.N, (cfg1.win 4).flush t = true ∧ i ∈ ((cfg1.win 4).blk t).view.set := by
  have h0 : (i 0 : Nat) < 10000 := (i 0).isLt
  have h1 : (i 1 : Nat) < 256 := (i 1).isLt
  have hN : cfg1.N = 25 := N_1
  refine ⟨⟨(i 0 : Nat) / 400, by omega⟩, flush1_4 _, ?_⟩
  generalize ht : (⟨(i 0 : Nat) / 400, by omega⟩ : Fin cfg1.N) = t
  have htv : t.val = (i 0 : Nat) / 400 := by rw [← ht]
  have e : win1_4.index t 0 = t.val ∧ win1_4.index t 1 = 0 := by
    clear ht htv; revert t; decide +kernel
  have e2 : win1_4.xsize (grid1.coords t) 0 = 400 ∧ win1_4.xsize (grid1.coords t) 1 = 256 := by
    clear ht htv e; revert t; decide +kernel
  show i ∈ ((View.whole main_v40_1).slice (win1_4.rect t)).set
  rw [View.set_slice_whole, Rect.mem_set_unit]
  intro a
  match a with
  | ⟨0, _⟩ => show win1_4.index t 0 * 400 ≤ (i 0 : Nat) ∧ (i 0 : Nat) < win1_4.index t 0 * 400 + win1_4.xsize (grid1.coords t) 0
              rw [e.1, e2.1]; omega
  | ⟨1, _⟩ => show win1_4.index t 1 * 256 ≤ (i 1 : Nat) ∧ (i 1 : Nat) < win1_4.index t 1 * 256 + win1_4.xsize (grid1.coords t) 1
              rw [e.2, e2.2]; omega

/-- Row `r` of point `t`'s block of window 0 is row `400 t + r` of its array. -/
theorem blk2_0 (c : Dev nD) (X : Vec Ideal S10000x4 .f32) (t : Fin cfg2.N) (r : Fin 400) (l : Fin 4) :
    ((cfg2.win 0).blk t).view.read (Elt Ideal) (X : Buf (Elt Ideal) ((c : Thread nD τ).loc main_v44)) (ix2 r l) = X (ix2 (row t.val r (t.isLt.trans_eq N_2)) l) := by
  have hi : win2_0.index t 0 = t.val ∧ win2_0.index t 1 = 0 := by
    revert t; decide +kernel
  rw [View.read_apply]
  refine congrArg X (funext fun a => Fin.ext ?_)
  match a with
  | ⟨0, _⟩ => show win2_0.index t 0 * 400 + 1 * r.val = 400 * t.val + r.val; rw [hi.1]; omega
  | ⟨1, _⟩ => show win2_0.index t 1 * 4 + 1 * l.val = l.val; rw [hi.2]; omega

/-- Window 1's block is its whole array at every point. -/
theorem blk2_1 (c : Dev nD) (X : Vec Ideal S4x10000 .f32) (t : Fin cfg2.N) (r : Fin 4) (l : Fin 10000) :
    ((cfg2.win 1).blk t).view.read (Elt Ideal) (X : Buf (Elt Ideal) ((c : Thread nD τ).loc main_v45)) (ix2 r l) = X (ix2 r l) := by
  have hi : win2_1.index t 0 = 0 ∧ win2_1.index t 1 = 0 := by
    revert t; decide +kernel
  rw [View.read_apply]
  refine congrArg X (funext fun a => Fin.ext ?_)
  match a with
  | ⟨0, _⟩ => show win2_1.index t 0 * 4 + 1 * r.val = r.val; rw [hi.1]; omega
  | ⟨1, _⟩ => show win2_1.index t 1 * 10000 + 1 * l.val = l.val; rw [hi.2]; omega

/-- Row `r` of point `t`'s block of window 2 is row `400 t + r` of its array. -/
theorem blk2_2 (c : Dev nD) (X : Vec Ideal S10000x16 .i32) (t : Fin cfg2.N) (r : Fin 400) (l : Fin 16) :
    ((cfg2.win 2).blk t).view.read (Elt Ideal) (X : Buf (Elt Ideal) ((c : Thread nD τ).loc main_v46_0)) (ix2 r l) = X (ix2 (row t.val r (t.isLt.trans_eq N_2)) l) := by
  have hi : win2_2.index t 0 = t.val ∧ win2_2.index t 1 = 0 := by
    revert t; decide +kernel
  rw [View.read_apply]
  refine congrArg X (funext fun a => Fin.ext ?_)
  match a with
  | ⟨0, _⟩ => show win2_2.index t 0 * 400 + 1 * r.val = 400 * t.val + r.val; rw [hi.1]; omega
  | ⟨1, _⟩ => show win2_2.index t 1 * 16 + 1 * l.val = l.val; rw [hi.2]; omega

/-- Row `r` of point `t`'s block of window 3 is row `400 t + r` of its array. -/
theorem blk2_3 (c : Dev nD) (X : Vec Ideal S10000x16 .i32) (t : Fin cfg2.N) (r : Fin 400) (l : Fin 16) :
    ((cfg2.win 3).blk t).view.read (Elt Ideal) (X : Buf (Elt Ideal) ((c : Thread nD τ).loc main_v46_1)) (ix2 r l) = X (ix2 (row t.val r (t.isLt.trans_eq N_2)) l) := by
  have hi : win2_3.index t 0 = t.val ∧ win2_3.index t 1 = 0 := by
    revert t; decide +kernel
  rw [View.read_apply]
  refine congrArg X (funext fun a => Fin.ext ?_)
  match a with
  | ⟨0, _⟩ => show win2_3.index t 0 * 400 + 1 * r.val = 400 * t.val + r.val; rw [hi.1]; omega
  | ⟨1, _⟩ => show win2_3.index t 1 * 16 + 1 * l.val = l.val; rw [hi.2]; omega

/-- Every index of window 2's array lies in the block of the point that its row belongs to. -/
theorem covered2_2 (i : S10000x16.Idx) : ∃ t : Fin cfg2.N, (cfg2.win 2).flush t = true ∧ i ∈ ((cfg2.win 2).blk t).view.set := by
  have h0 : (i 0 : Nat) < 10000 := (i 0).isLt
  have h1 : (i 1 : Nat) < 16 := (i 1).isLt
  have hN : cfg2.N = 25 := N_2
  refine ⟨⟨(i 0 : Nat) / 400, by omega⟩, flush2_2 _, ?_⟩
  generalize ht : (⟨(i 0 : Nat) / 400, by omega⟩ : Fin cfg2.N) = t
  have htv : t.val = (i 0 : Nat) / 400 := by rw [← ht]
  have e : win2_2.index t 0 = t.val ∧ win2_2.index t 1 = 0 := by
    clear ht htv; revert t; decide +kernel
  have e2 : win2_2.xsize (grid2.coords t) 0 = 400 ∧ win2_2.xsize (grid2.coords t) 1 = 16 := by
    clear ht htv e; revert t; decide +kernel
  show i ∈ ((View.whole main_v46_0).slice (win2_2.rect t)).set
  rw [View.set_slice_whole, Rect.mem_set_unit]
  intro a
  match a with
  | ⟨0, _⟩ => show win2_2.index t 0 * 400 ≤ (i 0 : Nat) ∧ (i 0 : Nat) < win2_2.index t 0 * 400 + win2_2.xsize (grid2.coords t) 0
              rw [e.1, e2.1]; omega
  | ⟨1, _⟩ => show win2_2.index t 1 * 16 ≤ (i 1 : Nat) ∧ (i 1 : Nat) < win2_2.index t 1 * 16 + win2_2.xsize (grid2.coords t) 1
              rw [e.2, e2.2]; omega

/-- Every index of window 3's array lies in the block of the point that its row belongs to. -/
theorem covered2_3 (i : S10000x16.Idx) : ∃ t : Fin cfg2.N, (cfg2.win 3).flush t = true ∧ i ∈ ((cfg2.win 3).blk t).view.set := by
  have h0 : (i 0 : Nat) < 10000 := (i 0).isLt
  have h1 : (i 1 : Nat) < 16 := (i 1).isLt
  have hN : cfg2.N = 25 := N_2
  refine ⟨⟨(i 0 : Nat) / 400, by omega⟩, flush2_3 _, ?_⟩
  generalize ht : (⟨(i 0 : Nat) / 400, by omega⟩ : Fin cfg2.N) = t
  have htv : t.val = (i 0 : Nat) / 400 := by rw [← ht]
  have e : win2_3.index t 0 = t.val ∧ win2_3.index t 1 = 0 := by
    clear ht htv; revert t; decide +kernel
  have e2 : win2_3.xsize (grid2.coords t) 0 = 400 ∧ win2_3.xsize (grid2.coords t) 1 = 16 := by
    clear ht htv e; revert t; decide +kernel
  show i ∈ ((View.whole main_v46_1).slice (win2_3.rect t)).set
  rw [View.set_slice_whole, Rect.mem_set_unit]
  intro a
  match a with
  | ⟨0, _⟩ => show win2_3.index t 0 * 400 ≤ (i 0 : Nat) ∧ (i 0 : Nat) < win2_3.index t 0 * 400 + win2_3.xsize (grid2.coords t) 0
              rw [e.1, e2.1]; omega
  | ⟨1, _⟩ => show win2_3.index t 1 * 16 ≤ (i 1 : Nat) ∧ (i 1 : Nat) < win2_3.index t 1 * 16 + win2_3.xsize (grid2.coords t) 1
              rw [e.2, e2.2]; omega

end Cert.KernelIdeal.Value

end
-- ==== Proof.Arr2.lean ====
module

public import proofs.«01_k».proof.Proof.KSel
public import proofs.«01_k».proof.Proof.Blocks

@[expose] public section

set_option maxRecDepth 16384

/-! What the third region leaves in its two arrays: for every row the selection among its masked distances. -/

noncomputable section

namespace Cert

open Idealize.ShloMosaic

/-- A point's squared length. -/
def sqOf (pos : FVec Ideal ⟨2, ![10000, 3]⟩ .f32) (i : Fin 10000) : EReal := ∑ k : Fin 3, pos (ix2 i k) * pos (ix2 i k)

/-- The squared distance between two points, not below zero. -/
def dist2 (pos : FVec Ideal ⟨2, ![10000, 3]⟩ .f32) (i j : Fin 10000) : EReal :=
  max (sqOf pos i + sqOf pos j - Ideal.ofBits .f32 1073741824#32 * ∑ k : Fin 3, pos (ix2 i k) * pos (ix2 j k)) 0

/-- The distances from a point, with infinity at the point itself. -/
def distRow (pos : FVec Ideal ⟨2, ![10000, 3]⟩ .f32) (i : Fin 10000) (j : ℕ) : EReal :=
  if h : j < 10000 then (if i.val = j then ⊤ else dist2 pos i ⟨j, h⟩) else ⊤

end Cert

namespace Cert.KernelIdeal.Value

open Idealize.ShloMosaic Idealize.ShloMosaic.TcCoe Idealize.SL.Sem
open Idealize.ShloMosaic.Pipeline (Dat)
open Cert.KernelIdeal Cert.KernelIdeal.Gen
open Cert.Select

theorem masked_apply (i : grid2.Coords) (o : BitVec 32) (x0 : Vec Ideal S400x4 .f32) (xc : Vec Ideal S4x2000 .f32) (r : Fin 400) (k : Fin 2000) :
    maskedOf i o x0 xc (ix2 r k) =
      if BitVec.ofNat 32 (i 0).val * 400#32 + BitVec.ofNat 32 r.val = o + BitVec.ofNat 32 k.val then ⊤ else
      max (x0 (ix2 r 3) + xc (ix2 3 k) - Ideal.ofBits .f32 1073741824#32 * ∑ x : Fin 3, x0 (ix2 r ⟨x.val, by omega⟩) * xc (ix2 ⟨x.val, by omega⟩ k)) 0 := by
  rw [← inf_bits, ← select_eq]
  pointwise [maskedOf, distOf, colsAt, k2_pay4,k2_pay3,k2_pay2,k2_pay1]
  rfl

theorem tileCols_apply (x1 : Vec Ideal S4x10000 .f32) (q : Fin 5) (a : Fin 4) (l : Fin 2000) :
    tileCols x1 q (ix2 a l) = x1 (ix2 a ⟨2000 * q.val + l.val, by omega⟩) := by
  match q with
  | 0 =>
    show x1 ((Rect.unit (s := S4x10000) ![0, 0] S4x2000.size inb_S4x10000_S4x2000_0_0).idx (ix2 a l)) = _
    refine congrArg x1 (funext fun b => Fin.ext ?_)
    match b with
    | ⟨0, _⟩ => show 0 + 1 * a.val = a.val; omega
    | ⟨1, _⟩ => show 0 + 1 * l.val = 2000 * 0 + l.val; omega
  | 1 =>
    show x1 ((Rect.unit (s := S4x10000) ![0, 2000] S4x2000.size inb_S4x10000_S4x2000_0_2000).idx (ix2 a l)) = _
    refine congrArg x1 (funext fun b => Fin.ext ?_)
    match b with
    | ⟨0, _⟩ => show 0 + 1 * a.val = a.val; omega
    | ⟨1, _⟩ => show 2000 + 1 * l.val = 2000 * 1 + l.val; omega
  | 2 =>
    show x1 ((Rect.unit (s := S4x10000) ![0, 4000] S4x2000.size inb_S4x10000_S4x2000_0_4000).idx (ix2 a l)) = _
    refine congrArg x1 (funext fun b => Fin.ext ?_)
    match b with
    | ⟨0, _⟩ => show 0 + 1 * a.val = a.val; omega
    | ⟨1, _⟩ => show 4000 + 1 * l.val = 2000 * 2 + l.val; omega
  | 3 =>
    show x1 ((Rect.unit (s := S4x10000) ![0, 6000] S4x2000.size inb_S4x10000_S4x2000_0_6000).idx (ix2 a l)) = _
    refine congrArg x1 (funext fun b => Fin.ext ?_)
    match b with
    | ⟨0, _⟩ => show 0 + 1 * a.val = a.val; omega
    | ⟨1, _⟩ => show 6000 + 1 * l.val = 2000 * 3 + l.val; omega
  | 4 =>
    show x1 ((Rect.unit (s := S4x10000) ![0, 8000] S4x2000.size inb_S4x10000_S4x2000_0_8000).idx (ix2 a l)) = _
    refine congrArg x1 (funext fun b => Fin.ext ?_)
    match b with
    | ⟨0, _⟩ => show 0 + 1 * a.val = a.val; omega
    | ⟨1, _⟩ => show 8000 + 1 * l.val = 2000 * 4 + l.val; omega

/-- Whether a slot is kept: its value below the threshold and its index not negative. -/
def flagOf (v : EReal) (i : BitVec 32) : BitVec 1 :=
  IntOp.andi (BitVec.ofBool (decide (v < Ideal.ofBits .f32 1008981770#32))) (IntOp.cmpi .sge i 0#32)

theorem pay49_apply (a : FVec Ideal S400x16 .f32) (b : IVec S400x16 32) (r : Fin 400) (k : Fin 16) :
    k2_pay49 a b (ix2 r k) = Scalar.select (flagOf (a (ix2 r k)) (b (ix2 r k))) (b (ix2 r k)) 0#32 := by
  unfold flagOf
  pointwise [k2_pay49, k2_pay48]

theorem pay50_apply (a : FVec Ideal S400x16 .f32) (b : IVec S400x16 32) (r : Fin 400) (k : Fin 16) :
    k2_pay50 a b (ix2 r k) = BitVec.setWidth 32 (flagOf (a (ix2 r k)) (b (ix2 r k))) := by
  unfold flagOf
  pointwise [k2_pay50, k2_pay48]

variable (V : (c : Dev nD) → (b : Ref sig .tc) → Buf (Elt Ideal) ((c : Thread nD τ).loc b)) (c : Dev nD)

/-- The slots kept at a point of the third region. -/
def keptPt (t : Fin cfg2.N) : Kept := keptOf (grid2.coords t) (iblk2 V c 0 t) (iblk2 V c 1 t)

/-- Slot `k` of row `p`: its value. -/
def keptVal (p : Fin 10000) (k : Fin 16) : EReal :=
  (keptPt V c ⟨p.val / 400, (by omega : p.val / 400 < 25).trans_eq N_2.symm⟩).1 (ix2 ⟨p.val % 400, by omega⟩ k)

/-- Slot `k` of row `p`: its index. -/
def keptIdx (p : Fin 10000) (k : Fin 16) : BitVec 32 :=
  (keptPt V c ⟨p.val / 400, (by omega : p.val / 400 < 25).trans_eq N_2.symm⟩).2 (ix2 ⟨p.val % 400, by omega⟩ k)

theorem row_div (t : Fin cfg2.N) (r : Fin 400) (h : (row t.val r (t.isLt.trans_eq N_2)).val / 400 < cfg2.N) :
    (⟨(row t.val r (t.isLt.trans_eq N_2)).val / 400, h⟩ : Fin cfg2.N) = t := by
  refine Fin.ext ?_
  show (400 * t.val + r.val) / 400 = t.val
  omega

theorem row_mod (t : Fin cfg2.N) (r : Fin 400) (h : (row t.val r (t.isLt.trans_eq N_2)).val % 400 < 400) :
    (⟨(row t.val r (t.isLt.trans_eq N_2)).val % 400, h⟩ : Fin 400) = r := by
  refine Fin.ext ?_
  show (400 * t.val + r.val) % 400 = r.val
  omega

theorem keptVal_row (t : Fin cfg2.N) (r : Fin 400) (k : Fin 16) :
    keptVal V c (row t.val r (t.isLt.trans_eq N_2)) k = (keptPt V c t).1 (ix2 r k) := by
  unfold keptVal
  rw [row_div t r, row_mod t r]

theorem keptIdx_row (t : Fin cfg2.N) (r : Fin 400) (k : Fin 16) :
    keptIdx V c (row t.val r (t.isLt.trans_eq N_2)) k = (keptPt V c t).2 (ix2 r k) := by
  unfold keptIdx
  rw [row_div t r, row_mod t r]

/-- What the third region leaves in the array of indices. -/
def colArr : Vec Ideal S10000x16 .i32 := fun j =>
  Scalar.select (flagOf (keptVal V c (j 0) (j 1)) (keptIdx V c (j 0) (j 1))) (keptIdx V c (j 0) (j 1)) 0#32

/-- What it leaves in the array of flags. -/
def flagArr : Vec Ideal S10000x16 .i32 := fun j =>
  BitVec.setWidth 32 (flagOf (keptVal V c (j 0) (j 1)) (keptIdx V c (j 0) (j 1)))

theorem arr2_2 : (dat2 V c).arrAt 2 cfg2.N = colArr V c := by
  refine (dat2 V c).arrAt_eq_of_cover 2 (colArr V c) (fun t _ => ?_) covered2_2
  show (cfg2.win 2).cut (grid2.coords t) ((dat2 V c).after 2 t) = _
  rw [after2_2]
  unfold outsAt2
  dsimp only
  rw [out2_A_2_eq]
  funext j
  obtain ⟨r, k, rfl⟩ : ∃ (r : Fin 400) (k : Fin 16), j = ix2 r k := ⟨j 0, j 1, eq_ix2 j⟩
  refine Eq.trans ?_ (blk2_2 c _ t r k).symm
  show k2_pay49 _ _ (ix2 r k) = Scalar.select (flagOf (keptVal V c (row t.val r (t.isLt.trans_eq N_2)) k) (keptIdx V c (row t.val r (t.isLt.trans_eq N_2)) k)) (keptIdx V c (row t.val r (t.isLt.trans_eq N_2)) k) 0#32
  rw [pay49_apply, keptVal_row, keptIdx_row]
  rfl

theorem arr2_3 : (dat2 V c).arrAt 3 cfg2.N = flagArr V c := by
  refine (dat2 V c).arrAt_eq_of_cover 3 (flagArr V c) (fun t _ => ?_) covered2_3
  show (cfg2.win 3).cut (grid2.coords t) ((dat2 V c).after 3 t) = _
  rw [after2_3]
  unfold outsAt2
  dsimp only
  rw [out2_A_3_eq]
  funext j
  obtain ⟨r, k, rfl⟩ : ∃ (r : Fin 400) (k : Fin 16), j = ix2 r k := ⟨j 0, j 1, eq_ix2 j⟩
  refine Eq.trans ?_ (blk2_3 c _ t r k).symm
  show k2_pay50 _ _ (ix2 r k) = BitVec.setWidth 32 (flagOf (keptVal V c (row t.val r (t.isLt.trans_eq N_2)) k) (keptIdx V c (row t.val r (t.isLt.trans_eq N_2)) k))
  rw [pay50_apply, keptVal_row, keptIdx_row]
  rfl

/-- Every slot kept is the slot of the selection among the row's masked distances. -/
theorem kept_slot (pos : FVec Ideal S10000x3 .f32)
    (h3 : ∀ p : Fin 10000, (V c main_v44 : Vec Ideal S10000x4 .f32) (ix2 p 3) = sqOf pos p)
    (hp : ∀ (p : Fin 10000) (x : Fin 3), (V c main_v44 : Vec Ideal S10000x4 .f32) (ix2 p ⟨x.val, by omega⟩) = pos (ix2 p x))
    (ht : ∀ (a : Fin 4) (p : Fin 10000), (V c main_v45 : Vec Ideal S4x10000 .f32) (ix2 a p) = (V c main_v44 : Vec Ideal S10000x4 .f32) (ix2 p a))
    (p : Fin 10000) (k : Fin 16) :
    Slot (distRow pos p) 10000 k.val (keptVal V c p k) (keptIdx V c p k).toInt := by
  obtain ⟨t, r, rfl⟩ : ∃ (t : Fin cfg2.N) (r : Fin 400), p = row t.val r (t.isLt.trans_eq N_2) :=
    ⟨⟨p.val / 400, (by omega : p.val / 400 < 25).trans_eq N_2.symm⟩, ⟨p.val % 400, by omega⟩, Fin.ext (by show p.val = 400 * (p.val / 400) + p.val % 400; omega)⟩
  rw [keptVal_row, keptIdx_row]
  have hc : (grid2.coords t 0).val = t.val := by
    revert t; decide +kernel
  have hN : t.val < 25 := t.isLt.trans_eq N_2
  refine kept_slots _ _ _ r (fun q l => ?_) k
  have e0 : ∀ a : Fin 4, (iblk2 V c 0 t : Vec Ideal S400x4 .f32) (ix2 r a) = (V c main_v44 : Vec Ideal S10000x4 .f32) (ix2 (row t.val r (t.isLt.trans_eq N_2)) a) :=
    fun a => blk2_0 c (V c main_v44) t r a
  have e1 : ∀ (a : Fin 4) (b : Fin 10000), (iblk2 V c 1 t : Vec Ideal S4x10000 .f32) (ix2 a b) = (V c main_v45 : Vec Ideal S4x10000 .f32) (ix2 a b) :=
    fun a b => blk2_1 c (V c main_v45) t a b
  rw [masked_apply]
  simp only [tileCols_apply, e0, e1, ht, h3, hp]
  unfold distRow
  rw [dif_pos (by omega : 2000 * q.val + l.val < 10000)]
  have hiff : (BitVec.ofNat 32 (grid2.coords t 0).val * 400#32 + BitVec.ofNat 32 r.val = BitVec.ofNat 32 (2000 * q.val) + BitVec.ofNat 32 l.val)
      ↔ ((row t.val r (t.isLt.trans_eq N_2)).val = 2000 * q.val + l.val) := by
    rw [hc, ← BitVec.toNat_inj]
    show _ ↔ (400 * t.val + r.val = 2000 * q.val + l.val)
    simp only [BitVec.toNat_add, BitVec.toNat_mul, BitVec.toNat_ofNat]
    omega
  by_cases e : (row t.val r (t.isLt.trans_eq N_2)).val = 2000 * q.val + l.val
  · rw [if_pos (hiff.mpr e), if_pos e]
  · rw [if_neg fun h => e (hiff.mp h), if_neg e]
    rfl

end Cert.KernelIdeal.Value

end
-- ==== Proof.Lits.lean ====
module

public import Idealize.ShloMosaic.Lib.Pointwise

@[expose] public section

/-! The literals of the two programs as extended reals. -/

namespace Cert.Lits

open Idealize.ShloMosaic

theorem top_bits : Ideal.ofBits .f32 2139095040#32 = ⊤ := by
  simp [Ideal.ofBits, Ideal.ieee]

theorem two_bits : Ideal.ofBits .f32 0x40000000#32 = ((2 : ℝ) : EReal) := by
  simp [Ideal.ofBits, Ideal.ieee, -EReal.coe_mul]
  norm_num

theorem half_bits : Ideal.ofBits .f32 0x3F000000#32 = ((1 / 2 : ℝ) : EReal) := by
  simp [Ideal.ofBits, Ideal.ieee, -EReal.coe_mul]
  norm_num

theorem n_bits : Ideal.ofBits .f32 0x461C4000#32 = ((10000 : ℝ) : EReal) := by
  simp [Ideal.ofBits, Ideal.ieee, -EReal.coe_mul]
  norm_num

theorem eps_bits : ∃ e : ℝ, 0 < e ∧ Ideal.ofBits .f32 0x3727C5AC#32 = (e : EReal) := by
  refine ⟨_, ?_, rfl⟩
  simp

theorem neg_thr_bits : Ideal.ofBits .f32 0xBC23D70A#32 = - Ideal.ofBits .f32 0x3C23D70A#32 := by
  simp [Ideal.ofBits, Ideal.ieee]

theorem thr_bits : Ideal.ofBits .f32 0x3C23D70A#32 < ⊤ := by
  simp [Ideal.ofBits, Ideal.ieee, -EReal.coe_mul, EReal.coe_lt_top]

end Cert.Lits
-- ==== Proof.RSel.lean ====
module

public import proofs.«01_k».proof.Proof.RefRun
public import proofs.«01_k».proof.Proof.Select
public import proofs.«01_k».proof.Proof.Arr2
public import proofs.«01_k».proof.Proof.Lits

@[expose] public section

set_option maxRecDepth 16384

/-! The reference's selection: the stable sort of the negated distances leaves in slot `k` the candidate of rank `k`. -/

noncomputable section

namespace Cert.ReferenceIdeal.Value

open Idealize.ShloMosaic Idealize.ShloMosaic.TcCoe Idealize.ShloMosaic.StableHlo Idealize.SL.Sem
open Cert.ReferenceIdeal Cert.ReferenceIdeal.Gen
open Cert.Select

/-- The permutation a row's sort applies. -/
def permOf (x : FVec Ideal S10000x10000 .f32) (p : Fin 10000) : Fin 10000 → Fin 10000 :=
  sortedFrom fun a b => decide (x (ix2 p b) < x (ix2 p a))

theorem gt_eq (a b : Ideal .f32) : ((FloatOps.cmpfTotal (F := Ideal) (φ := .f32) .gt a b) == 1#1) = decide (b < a) := by
  show (BitVec.ofBool (decide (b < a)) == 1#1) = _
  by_cases h : b < a <;> simp [h]

theorem along_eq (p j k : Fin 10000) : Shape.Idx.along (s := S10000x10000) (ix2 p j) 1 k = ix2 p k := by
  funext a
  match a with
  | ⟨0, _⟩ => rfl
  | ⟨1, _⟩ => rfl

theorem slice_eq (p : Fin 10000) (k : Fin 16) {α : Type} (x : S10000x10000.Idx → α) :
    extractStridedSlice S10000x16 (fun _ => 0) x sliceFits_S10000x10000_S10000x16 (ix2 p k) = x (ix2 p ⟨k.val, by omega⟩) := by
  pointwise

theorem sort2_val (x : FVec Ideal S10000x10000 .f32) (y : IVec S10000x10000 32) (p j : Fin 10000) :
    (Host.sort2 S10000x10000 1 (fun l r => FloatOps.cmpfTotal (F := Ideal) (φ := .f32) .gt l.1 r.1) x y).1 (ix2 p j) = x (ix2 p (permOf x p j)) := by
  unfold Host.sort2
  rw [dif_pos (by decide)]
  show x (Shape.Idx.along (s := S10000x10000) (ix2 p j) 1 (sortedFrom (fun k k' : Fin 10000 =>
    ((FloatOps.cmpfTotal (F := Ideal) (φ := .f32) .gt (x (Shape.Idx.along (s := S10000x10000) (ix2 p j) 1 k)) (x (Shape.Idx.along (s := S10000x10000) (ix2 p j) 1 k'))) == 1#1)) j)) = _
  simp only [along_eq, gt_eq]
  exact congrArg _ (along_eq p j _)

theorem sort2_idx (x : FVec Ideal S10000x10000 .f32) (y : IVec S10000x10000 32) (p j : Fin 10000) :
    (Host.sort2 S10000x10000 1 (fun l r => FloatOps.cmpfTotal (F := Ideal) (φ := .f32) .gt l.1 r.1) x y).2 (ix2 p j) = y (ix2 p (permOf x p j)) := by
  unfold Host.sort2
  rw [dif_pos (by decide)]
  show y (Shape.Idx.along (s := S10000x10000) (ix2 p j) 1 (sortedFrom (fun k k' : Fin 10000 =>
    ((FloatOps.cmpfTotal (F := Ideal) (φ := .f32) .gt (x (Shape.Idx.along (s := S10000x10000) (ix2 p j) 1 k)) (x (Shape.Idx.along (s := S10000x10000) (ix2 p j) 1 k'))) == 1#1)) j)) = _
  simp only [along_eq, gt_eq]
  exact congrArg _ (along_eq p j _)

/-- The column indices the sort carries. -/
def idsVec : IVec S10000x10000 32 := fun i => if hd : 1 < S10000x10000.rank then iotaInDim S10000x10000 32 ⟨1, hd⟩ i else 0#32

theorem idsVec_apply (p j : Fin 10000) : idsVec (ix2 p j) = BitVec.ofNat 32 j.val := by
  unfold idsVec
  rw [dif_pos (by decide)]
  rfl

theorem topK_val (x : FVec Ideal S10000x10000 .f32) (p : Fin 10000) (k : Fin 16) :
    (Host.topK S10000x16 1 (FloatOps.cmpfTotal .gt) x sliceFits_S10000x10000_S10000x16).1 (ix2 p k)
      = x (ix2 p (permOf x p ⟨k.val, by omega⟩)) := by
  unfold Host.topK
  exact (slice_eq p k _).trans (sort2_val x idsVec p _)

theorem topK_idx (x : FVec Ideal S10000x10000 .f32) (p : Fin 10000) (k : Fin 16) :
    (Host.topK S10000x16 1 (FloatOps.cmpfTotal .gt) x sliceFits_S10000x10000_S10000x16).2 (ix2 p k)
      = BitVec.ofNat 32 (permOf x p ⟨k.val, by omega⟩).val := by
  unfold Host.topK
  exact ((slice_eq p k _).trans (sort2_idx x idsVec p _)).trans (idsVec_apply p _)

theorem topK_slot (x : FVec Ideal S10000x10000 .f32) (p : Fin 10000) (D : ℕ → EReal) (hx : ∀ j : Fin 10000, x (ix2 p j) = - D j) (k : Fin 16) :
    Slot D 10000 k.val (- (Host.topK S10000x16 1 (FloatOps.cmpfTotal .gt) x sliceFits_S10000x10000_S10000x16).1 (ix2 p k))
      ((Host.topK S10000x16 1 (FloatOps.cmpfTotal .gt) x sliceFits_S10000x10000_S10000x16).2 (ix2 p k)).toInt := by
  have h := slot_sortedFrom (fun j : Fin 10000 => x (ix2 p j)) D hx ⟨k.val, by omega⟩
  rw [topK_val, topK_idx, hx, neg_neg, BitVec.toInt_ofNat', Int.bmod_def]
  have hl : (permOf x p ⟨k.val, by omega⟩).val < 10000 := (permOf x p ⟨k.val, by omega⟩).isLt
  have e : (if ((permOf x p ⟨k.val, by omega⟩).val : ℤ) % ((2 ^ 32 : ℕ) : ℤ) < (((2 ^ 32 : ℕ) : ℤ) + 1) / 2 then
      ((permOf x p ⟨k.val, by omega⟩).val : ℤ) % ((2 ^ 32 : ℕ) : ℤ) else ((permOf x p ⟨k.val, by omega⟩).val : ℤ) % ((2 ^ 32 : ℕ) : ℤ) - ((2 ^ 32 : ℕ) : ℤ))
      = ((permOf x p ⟨k.val, by omega⟩).val : ℤ) := by omega
  rw [e]
  exact h

variable (m : (ℓ : Loc nD τ sig) → Buf (Elt Ideal) ℓ) (c : Dev nD)

theorem X3_values : X3 m c (Proc.devRef .tc main_values) = (Host.topK S10000x16 1 (FloatOps.cmpfTotal (F := Ideal) (φ := .f32) .gt) (Host.negf (F := Ideal) (s := S10000x10000) (φ := .f32) (X2 m c (Proc.devRef .tc main_v26))) sliceFits_S10000x10000_S10000x16).1 := by
  show after hostOps0_2 (X2 m c) (Proc.devRef .tc main_values) = _
  generalize X2 m c = V
  after_results

theorem X3_indices : X3 m c (Proc.devRef .tc main_indices) = (Host.topK S10000x16 1 (FloatOps.cmpfTotal (F := Ideal) (φ := .f32) .gt) (Host.negf (F := Ideal) (s := S10000x10000) (φ := .f32) (X2 m c (Proc.devRef .tc main_v26))) sliceFits_S10000x10000_S10000x16).2 := by
  show after hostOps0_2 (X2 m c) (Proc.devRef .tc main_indices) = _
  generalize X2 m c = V
  after_results

theorem X3_v29 : X3 m c (Proc.devRef .tc main_v29) = cmpf (F := Ideal) (s := S10000x16) (φ := .f32) .ogt (X3 m c (Proc.devRef .tc main_values))
    (broadcastInDim S10000x16 ![] bcast_S_S10000x16 (constant S_ .f32 0xBC23D70A#32)) := by
  rw [X3_values]
  show after hostOps0_2 (X2 m c) (Proc.devRef .tc main_v29) = _
  generalize X2 m c = V
  after_results

/-- The table of distances masked where the batches differ or the row is the column. -/
def tableOf (pos : FVec Ideal S10000x3 .f32) (b : IVec S10000 32) : FVec Ideal S10000x10000 .f32 :=
  select (andi (cmpi .eq (broadcastInDim S10000x10000 ![0, 1] bcast_S10000x1_S10000x10000_0_1 (broadcastInDim S10000x1 ![0] bcast_S10000_S10000x1_0 b))
        (broadcastInDim S10000x10000 ![0, 1] bcast_S1x10000_S10000x10000_0_1 (broadcastInDim S1x10000 ![1] bcast_S10000_S1x10000_1 b)))
      (cmpi .ne (broadcastInDim S10000x10000 ![0, 1] bcast_S10000x1_S10000x10000_0_1 (broadcastInDim S10000x1 ![0] bcast_S10000_S10000x1_0 (iotaInDim S10000 32 0)))
        (broadcastInDim S10000x10000 ![0, 1] bcast_S1x10000_S10000x10000_0_1 (broadcastInDim S1x10000 ![1] bcast_S10000_S1x10000_1 (iotaInDim S10000 32 0)))))
    (maximumf (subf (addf
        (broadcastInDim S10000x10000 ![0, 1] bcast_S10000x1_S10000x10000_0_1 (broadcastInDim S10000x1 ![0] bcast_S10000_S10000x1_0 (Host.reduceAdd (mulf pos pos) (constant S_ .f32 0x00000000#32) reducesTo_S10000x3_S10000_d1 h_S_)))
        (broadcastInDim S10000x10000 ![0, 1] bcast_S1x10000_S10000x10000_0_1 (broadcastInDim S1x10000 ![1] bcast_S10000_S1x10000_1 (Host.reduceAdd (mulf pos pos) (constant S_ .f32 0x00000000#32) reducesTo_S10000x3_S10000_d1 h_S_))))
      (mulf (broadcastInDim S10000x10000 ![] bcast_S_S10000x10000 (constant S_ .f32 0x40000000#32))
        (Host.dotGeneral dot_S10000x3_S3x10000_S10000x10000_1_0_0_1_n_n none pos (transpose S3x10000 [1, 0] pos transposes_S10000x3_S3x10000_1_0))))
      (broadcastInDim S10000x10000 ![] bcast_S_S10000x10000 (constant S_ .f32 0x00000000#32)))
    (broadcastInDim S10000x10000 ![] bcast_S_S10000x10000 (constant S_ .f32 0x7F800000#32))

theorem X2_v26 : X2 m c (Proc.devRef .tc main_v26) = tableOf (X0 m c (Proc.devRef .tc main_arg2)) (X0 m c (Proc.devRef .tc main_arg3)) := by
  show after hostOps0_1 (after hostOps0 (X0 m c)) (Proc.devRef .tc main_v26) = _
  generalize X0 m c = V
  after_results; rfl

theorem mask_eq (v : BitVec 32) (p j : Fin 10000) (x y : EReal) :
    Scalar.select (IntOp.andi (IntOp.cmpi .eq v v) (IntOp.cmpi .ne (BitVec.ofNat 32 p.val) (BitVec.ofNat 32 j.val))) x y
      = if p.val = j.val then y else x := by
  by_cases h : p.val = j.val
  · rw [if_pos h, h]; simp [Scalar.select, IntOp.andi, IntOp.cmpi]
  · have hn : BitVec.ofNat 32 p.val ≠ BitVec.ofNat 32 j.val := by
      intro e
      have := congrArg BitVec.toNat e
      simp only [BitVec.toNat_ofNat] at this
      omega
    rw [if_neg h]; simp [Scalar.select, IntOp.andi, IntOp.cmpi, bne_iff_ne.mpr hn]

/-- With one batch the table is the row of masked distances. -/
theorem table_apply (pos : FVec Ideal S10000x3 .f32) (b : IVec S10000 32) (hb : ∀ i j : Fin 10000, b (ix1 i) = b (ix1 j)) (p j : Fin 10000) :
    tableOf pos b (ix2 p j) = distRow pos p j.val := by
  have h : tableOf pos b (ix2 p j) = Scalar.select (IntOp.andi (IntOp.cmpi .eq (b (ix1 p)) (b (ix1 j)))
        (IntOp.cmpi .ne (BitVec.ofNat 32 p.val) (BitVec.ofNat 32 j.val))) (dist2 pos p j) (Ideal.ofBits FTy.f32 2139095040#32) := by
    pointwise [tableOf, dist2, sqOf]
  rw [h, hb p j, mask_eq, Cert.Lits.top_bits]
  unfold distRow
  rw [dif_pos j.isLt]

/-- Slot `k` of row `p` of the reference's selection. -/
theorem ref_slot (hb : ∀ i j : Fin 10000, m ((c : Thread nD τ).loc main_arg3) (ix1 i) = m ((c : Thread nD τ).loc main_arg3) (ix1 j)) (p : Fin 10000) (k : Fin 16) :
    Slot (distRow (m ((c : Thread nD τ).loc main_arg2)) p) 10000 k.val (Neg.neg (α := EReal) (X3 m c (Proc.devRef .tc main_values) (ix2 p k)))
      (X3 m c (Proc.devRef .tc main_indices) (ix2 p k) : BitVec 32).toInt := by
  rw [X3_values, X3_indices, X2_v26]
  refine topK_slot _ p _ (fun j => ?_) k
  show - tableOf _ _ (ix2 p j) = _
  exact congrArg _ (table_apply _ _ hb p j)

/-- The reference's threshold: the negated distance is over the negated bound. -/
theorem ref_valid (p : Fin 10000) (k : Fin 16) : X3 m c (Proc.devRef .tc main_v29) (ix2 p k)
    = BitVec.ofBool (decide (Ideal.ofBits .f32 0xBC23D70A#32 < (X3 m c (Proc.devRef .tc main_values) (ix2 p k) : EReal))) := by
  rw [X3_v29]
  generalize X3 m c (Proc.devRef .tc main_values) = v
  show cmpf (F := Ideal) (s := S10000x16) (φ := .f32) .ogt v (broadcastInDim S10000x16 ![] bcast_S_S10000x16 (constant S_ .f32 0xBC23D70A#32)) (ix2 p k) = _
  pointwise

end Cert.ReferenceIdeal.Value

end
-- ==== Proof.KTail.lean ====
module

public import proofs.«01_k».proof.Proof.KernelRun
public import Idealize.ShloMosaic.Lib.StableHlo.RunRead
public import Idealize.ShloMosaic.Lib.Pointwise

@[expose] public section

set_option maxRecDepth 16384

/-! What the kernel's host code after its last region computes, as a function of the two normalised tables, the chosen
indices and their validity. -/

noncomputable section

namespace Cert.KernelIdeal.Value

open Idealize.ShloMosaic Idealize.ShloMosaic.TcCoe Idealize.SL.Sem Idealize.ShloMosaic.StableHlo
open Cert.KernelIdeal Cert.KernelIdeal.Gen

/-- The rows that the indices name (a negative one counts from the end), one vector of length one for each. -/
def rowsOf (col : IVec S10000x16 32) : IVec S10000x16x1 32 :=
  broadcastInDim S10000x16x1 ![0, 1] bcast_S10000x16_S10000x16x1_0_1
    (select (cmpi .slt col (broadcastInDim S10000x16 ![] bcast_S_S10000x16 (constantI S_ 32 0#32)))
      (addi col (broadcastInDim S10000x16 ![] bcast_S_S10000x16 (constantI S_ 32 10000#32))) col)

/-- The named rows of a table. -/
def takeOf (t : FVec Ideal S10000x256 .f32) (col : IVec S10000x16 32) : FVec Ideal S10000x16x256 .f32 :=
  Host.gather gather_S10000x256_S10000x16x1_S10000x16x256_2_0_n_n_0_2_1256 t (rowsOf col)

/-- The difference of each row and its neighbours. -/
def diffOf (yp : FVec Ideal S10000x256 .f32) (col : IVec S10000x16 32) : FVec Ideal S10000x16x256 .f32 :=
  subf (broadcastInDim S10000x16x256 ![0, 1, 2] bcast_S10000x1x256_S10000x16x256_0_1_2
    (broadcastInDim S10000x1x256 ![0, 2] bcast_S10000x256_S10000x1x256_0_2 yp)) (takeOf yp col)

/-- The negated squared distance of each row and its neighbours. -/
def simOf (yp : FVec Ideal S10000x256 .f32) (col : IVec S10000x16 32) : FVec Ideal S10000x16 .f32 :=
  Host.negf (Host.reduceAdd (mulf (diffOf yp col) (diffOf yp col)) (constant S_ .f32 0x00000000#32)
    reducesTo_S10000x16x256_S10000x16_d2 h_S_)

/-- The logits: the negated squared distance where the neighbour is valid. -/
def logitOf (sim : FVec Ideal S10000x16 .f32) (valid : IVec S10000x16 1) : FVec Ideal S10000x16 .f32 :=
  select valid sim (broadcastInDim S10000x16 ![] bcast_S_S10000x16 (constant S_ .f32 0xFF800000#32))

/-- Each row's greatest logit. -/
def topOf (e : FVec Ideal S10000x16 .f32) : FVec Ideal S10000x1 .f32 :=
  broadcastInDim S10000x1 ![0] bcast_S10000_S10000x1_0
    (Host.reduce FloatOps.maximumf e (constant S_ .f32 0xFF800000#32) reducesTo_S10000x16_S10000_d1 h_S_)

/-- Each row's greatest logit, zero in place of an infinite one. -/
def safeOf (t : FVec Ideal S10000x1 .f32) : FVec Ideal S10000x1 .f32 :=
  select (cmpf .olt (Host.absf t) (broadcastInDim S10000x1 ![] bcast_S_S10000x1 (constant S_ .f32 0x7F800000#32))) t
    (broadcastInDim S10000x1 ![] bcast_S_S10000x1 (constant S_ .f32 0x00000000#32))

/-- The exponentials of the shifted logits, zero where the neighbour is not valid. -/
def expOf (e : FVec Ideal S10000x16 .f32) (valid : IVec S10000x16 1) : FVec Ideal S10000x16 .f32 :=
  select valid (Host.exp (subf e (broadcastInDim S10000x16 ![0, 1] bcast_S10000x1_S10000x16_0_1 (safeOf (topOf e)))))
    (broadcastInDim S10000x16 ![] bcast_S_S10000x16 (constant S_ .f32 0x00000000#32))

/-- Each row's sum. -/
def sumOf (x : FVec Ideal S10000x16 .f32) : FVec Ideal S10000x1 .f32 :=
  broadcastInDim S10000x1 ![0] bcast_S10000_S10000x1_0
    (Host.reduceAdd x (constant S_ .f32 0x00000000#32) reducesTo_S10000x16_S10000_d1 h_S_)

/-- Each row's sum, one in place of a sum that is not positive. -/
def denOf (s : FVec Ideal S10000x1 .f32) : FVec Ideal S10000x1 .f32 :=
  select (cmpf .ogt s (broadcastInDim S10000x1 ![] bcast_S_S10000x1 (constant S_ .f32 0x00000000#32))) s
    (broadcastInDim S10000x1 ![] bcast_S_S10000x1 (constant S_ .f32 0x3F800000#32))

/-- The weights. -/
def weightOf (x : FVec Ideal S10000x16 .f32) : FVec Ideal S10000x16 .f32 :=
  Host.divf x (broadcastInDim S10000x16 ![0, 1] bcast_S10000x1_S10000x16_0_1 (denOf (sumOf x)))

/-- The weighted sum of each row's neighbours. -/
def aggOf (xu : FVec Ideal S10000x256 .f32) (col : IVec S10000x16 32) (w : FVec Ideal S10000x16 .f32) : FVec Ideal S10000x256 .f32 :=
  Host.reduceAdd (mulf (broadcastInDim S10000x16x256 ![0, 1, 2] bcast_S10000x16x1_S10000x16x256_0_1_2
    (broadcastInDim S10000x16x1 ![0, 1] bcast_S10000x16_S10000x16x1_0_1 w)) (takeOf xu col))
    (constant S_ .f32 0x00000000#32) reducesTo_S10000x16x256_S10000x256_d1 h_S_

/-- The leaky rectifier. -/
def leakyOf (t : FVec Ideal S10000x256 .f32) : FVec Ideal S10000x256 .f32 :=
  select (cmpf .ogt t (broadcastInDim S10000x256 ![] bcast_S_S10000x256 (constant S_ .f32 0x00000000#32))) t
    (mulf (broadcastInDim S10000x256 ![] bcast_S_S10000x256 (constant S_ .f32 0x3C23D70A#32)) t)

/-- Half of the sum. -/
def halfOf (xu agg : FVec Ideal S10000x256 .f32) : FVec Ideal S10000x256 .f32 :=
  mulf (broadcastInDim S10000x256 ![] bcast_S_S10000x256 (constant S_ .f32 0x3F000000#32)) (addf xu agg)

/-- The validity as a bit. -/
def validOf (v : IVec S10000x16 32) : IVec S10000x16 1 :=
  cmpi .ne v (broadcastInDim S10000x16 ![] bcast_S_S10000x16 (constantI S_ 32 0#32))

/-- The weights from the tables and the selection. -/
def weights (yp : FVec Ideal S10000x256 .f32) (col : IVec S10000x16 32) (valid : IVec S10000x16 1) : FVec Ideal S10000x16 .f32 :=
  weightOf (expOf (logitOf (simOf yp col) valid) valid)

variable (m : (ℓ : Loc nD τ sig) → Buf (Elt Ideal) ℓ) (ρ : Dev nD → PrngReg) (c : Dev nD)

theorem W7_v61 : W7 m ρ c (Proc.devRef .tc main_v61) = validOf (W6 m ρ c (Proc.devRef .tc main_v46_1)) := by
  after_results; rfl

theorem W7_v62 : W7 m ρ c (Proc.devRef .tc main_v62) = simOf (W6 m ρ c (Proc.devRef .tc main_v40_1)) (W6 m ρ c (Proc.devRef .tc main_v46_0)) := by
  after_results; rfl

theorem W7_cst9 : W7 m ρ c (Proc.devRef .tc main_cst_9) = constant (F := Ideal) S_ .f32 0xFF800000#32 := by
  after_results

/-- The contents before the last stretches, read through the stretches: each step reads the one before. -/
theorem W8_v63 : W8 m ρ c (Proc.devRef .tc main_v63) = logitOf (W7 m ρ c (Proc.devRef .tc main_v62)) (W7 m ρ c (Proc.devRef .tc main_v61)) := by
  have e := W7_cst9 m ρ c
  show StableHlo.after hostOps3_1 (W7 m ρ c) _ = _
  generalize W7 m ρ c = V at e ⊢
  after_results
  rw [e]; rfl

theorem W9_v65 : W9 m ρ c (Proc.devRef .tc main_v65) = topOf (W8 m ρ c (Proc.devRef .tc main_v63)) := by
  show StableHlo.after hostOps3_2 (W8 m ρ c) _ = _
  generalize W8 m ρ c = V
  after_results; rfl

theorem W10_v69 : W10 m ρ c (Proc.devRef .tc main_v69) = safeOf (topOf (W8 m ρ c (Proc.devRef .tc main_v63))) := by
  have e68 : W9 m ρ c (Proc.devRef .tc main_v68) = cmpf (F := Ideal) .olt (Host.absf (topOf (W8 m ρ c (Proc.devRef .tc main_v63))))
      (broadcastInDim S10000x1 ![] bcast_S_S10000x1 (constant S_ .f32 0x7F800000#32)) := by
    show StableHlo.after hostOps3_2 (W8 m ρ c) _ = _
    generalize W8 m ρ c = V
    after_results; rfl
  have e12 : W9 m ρ c (Proc.devRef .tc main_cst_12) = constant (F := Ideal) S_ .f32 0x00000000#32 := by
    show StableHlo.after hostOps3_2 (W8 m ρ c) _ = _
    generalize W8 m ρ c = V
    after_results
  have h : W10 m ρ c (Proc.devRef .tc main_v69) = select (W9 m ρ c (Proc.devRef .tc main_v68)) (W9 m ρ c (Proc.devRef .tc main_v65))
      (broadcastInDim S10000x1 ![] bcast_S_S10000x1 (constant (F := Ideal) S_ .f32 0x00000000#32)) := by
    show StableHlo.after hostOps3_3 (W9 m ρ c) _ = _
    generalize W9 m ρ c = V at e12 ⊢
    after_results
    rw [e12]; rfl
  rw [h, W9_v65, e68]; rfl

theorem W12_v73 : W12 m ρ c (Proc.devRef .tc main_v73) = expOf (W8 m ρ c (Proc.devRef .tc main_v63)) (W7 m ρ c (Proc.devRef .tc main_v61)) := by
  have e63 : W10 m ρ c (Proc.devRef .tc main_v63) = W8 m ρ c (Proc.devRef .tc main_v63) :=
    (W10_of m ρ c _ (by decide)).trans (W9_of m ρ c _ (by decide))
  have e61 : W10 m ρ c (Proc.devRef .tc main_v61) = W7 m ρ c (Proc.devRef .tc main_v61) :=
    (W10_of m ρ c _ (by decide)).trans ((W9_of m ρ c _ (by decide)).trans (W8_of m ρ c _ (by decide)))
  have h : W12 m ρ c (Proc.devRef .tc main_v73) = select (W10 m ρ c (Proc.devRef .tc main_v61))
      (Host.exp (subf (W10 m ρ c (Proc.devRef .tc main_v63)) (broadcastInDim S10000x16 ![0, 1] bcast_S10000x1_S10000x16_0_1 (W10 m ρ c (Proc.devRef .tc main_v69)))))
      (broadcastInDim S10000x16 ![] bcast_S_S10000x16 (constant (F := Ideal) S_ .f32 0x00000000#32)) := by
    show StableHlo.after hostOps3_5 (StableHlo.after hostOps3_4 (W10 m ρ c)) _ = _
    generalize W10 m ρ c = V
    after_results; rfl
  rw [h, e61, e63, W10_v69]; rfl

theorem W14_v78 : W14 m ρ c (Proc.devRef .tc main_v78) = denOf (sumOf (W12 m ρ c (Proc.devRef .tc main_v73))) := by
  show StableHlo.after hostOps3_7 (StableHlo.after hostOps3_6 (W12 m ρ c)) _ = _
  generalize W12 m ρ c = V
  after_results; rfl

theorem W16_v99' : W16 m ρ c (Proc.devRef .tc main_v99) = leakyOf (halfOf (W14 m ρ c (Proc.devRef .tc main_v40_0))
    (aggOf (W14 m ρ c (Proc.devRef .tc main_v40_0)) (W14 m ρ c (Proc.devRef .tc main_v46_0))
      (Host.divf (W14 m ρ c (Proc.devRef .tc main_v73)) (broadcastInDim S10000x16 ![0, 1] bcast_S10000x1_S10000x16_0_1 (W14 m ρ c (Proc.devRef .tc main_v78)))))) := by
  show StableHlo.after hostOps3_9 (StableHlo.after hostOps3_8 (W14 m ρ c)) _ = _
  generalize W14 m ρ c = V
  after_results; rfl

theorem W14_kept (r : Ref sig .tc) (h : r ∉ hostOps3_W ∧ r ∉ hostOps3_1_W ∧ r ∉ hostOps3_2_W ∧ r ∉ hostOps3_3_W ∧ r ∉ hostOps3_4_W
    ∧ r ∉ hostOps3_5_W ∧ r ∉ hostOps3_6_W ∧ r ∉ hostOps3_7_W) : W14 m ρ c (Proc.devRef .tc r) = W6 m ρ c (Proc.devRef .tc r) := by
  obtain ⟨h0, h1, h2, h3, h4, h5, h6, h7⟩ := h
  rw [W14_of m ρ c r h7, W13_of m ρ c r h6, W12_of m ρ c r h5, W11_of m ρ c r h4, W10_of m ρ c r h3, W9_of m ρ c r h2, W8_of m ρ c r h1,
    W7_of m ρ c r h0]

/-- The kernel's result from the contents after its last region. -/
theorem result_eq : W16 m ρ c (Proc.devRef .tc main_v99) =
    leakyOf (halfOf (W6 m ρ c (Proc.devRef .tc main_v40_0))
      (aggOf (W6 m ρ c (Proc.devRef .tc main_v40_0)) (W6 m ρ c (Proc.devRef .tc main_v46_0))
        (weights (W6 m ρ c (Proc.devRef .tc main_v40_1)) (W6 m ρ c (Proc.devRef .tc main_v46_0))
          (validOf (W6 m ρ c (Proc.devRef .tc main_v46_1)))))) := by
  have e73 : W14 m ρ c (Proc.devRef .tc main_v73) = W12 m ρ c (Proc.devRef .tc main_v73) :=
    (W14_of m ρ c _ (by decide)).trans (W13_of m ρ c _ (by decide))
  rw [W16_v99', W14_v78, e73, W12_v73, W8_v63, W7_v61, W7_v62, W14_kept m ρ c main_v40_0 (by decide), W14_kept m ρ c main_v46_0 (by decide)]
  rfl

end Cert.KernelIdeal.Value

end
-- ==== Proof.KHost.lean ====
module

public import proofs.«01_k».proof.Proof.KTail

@[expose] public section

set_option maxRecDepth 16384

/-! What the kernel's host code between its regions computes: the coefficients of the normalisation, and the points
with their squared lengths. -/

noncomputable section

namespace Cert.KernelIdeal.Value

open Idealize.ShloMosaic Idealize.ShloMosaic.TcCoe Idealize.SL.Sem Idealize.ShloMosaic.StableHlo
open Cert.KernelIdeal Cert.KernelIdeal.Gen

/-- A vector of 256 over the number of rows. -/
def overN (x : FVec Ideal S256 .f32) : FVec Ideal S256 .f32 :=
  Host.divf x (broadcastInDim S256 ![] bcast_S_S256 (constant S_ .f32 0x461C4000#32))

def sum0 (s : FVec Ideal S4x256 .f32) : FVec Ideal S256 .f32 :=
  shapeCast S256 (extractStridedSlice S1x256 ![0, 0] s slices_S4x256_S1x256_0_0) shapeCasts_S1x256_S256
def sum1 (s : FVec Ideal S4x256 .f32) : FVec Ideal S256 .f32 :=
  shapeCast S256 (extractStridedSlice S1x256 ![1, 0] s slices_S4x256_S1x256_1_0) shapeCasts_S1x256_S256
def sum2 (s : FVec Ideal S4x256 .f32) : FVec Ideal S256 .f32 :=
  shapeCast S256 (extractStridedSlice S1x256 ![2, 0] s slices_S4x256_S1x256_2_0) shapeCasts_S1x256_S256
def sum3 (s : FVec Ideal S4x256 .f32) : FVec Ideal S256 .f32 :=
  shapeCast S256 (extractStridedSlice S1x256 ![3, 0] s slices_S4x256_S1x256_3_0) shapeCasts_S1x256_S256

/-- The scale from the sums of the values and of the squares. -/
def scaleOf (g a b : FVec Ideal S256 .f32) : FVec Ideal S256 .f32 :=
  mulf g (Host.rsqrt (addf (subf (overN b) (mulf (overN a) (overN a)))
    (broadcastInDim S256 ![] bcast_S_S256 (constant S_ .f32 0x3727C5AC#32))))

/-- The shift. -/
def shiftOf (g h a b : FVec Ideal S256 .f32) : FVec Ideal S256 .f32 := subf h (mulf (overN a) (scaleOf g a b))

variable (m : (ℓ : Loc nD τ sig) → Buf (Elt Ideal) ℓ) (ρ : Dev nD → PrngReg) (c : Dev nD)

theorem W3_v39 : W3 m ρ c (Proc.devRef .tc main_v39) = concatenate S4x256 0
    [⟨S1x256, broadcastInDim S1x256 ![1] bcast_S256_S1x256_1 (scaleOf (W2 m ρ c (Proc.devRef .tc main_arg5)) (sum0 (W2 m ρ c (Proc.devRef .tc main_v2_2))) (sum1 (W2 m ρ c (Proc.devRef .tc main_v2_2))))⟩,
     ⟨S1x256, broadcastInDim S1x256 ![1] bcast_S256_S1x256_1 (shiftOf (W2 m ρ c (Proc.devRef .tc main_arg5)) (W2 m ρ c (Proc.devRef .tc main_arg6)) (sum0 (W2 m ρ c (Proc.devRef .tc main_v2_2))) (sum1 (W2 m ρ c (Proc.devRef .tc main_v2_2))))⟩,
     ⟨S1x256, broadcastInDim S1x256 ![1] bcast_S256_S1x256_1 (scaleOf (W2 m ρ c (Proc.devRef .tc main_arg8)) (sum2 (W2 m ρ c (Proc.devRef .tc main_v2_2))) (sum3 (W2 m ρ c (Proc.devRef .tc main_v2_2))))⟩,
     ⟨S1x256, broadcastInDim S1x256 ![1] bcast_S256_S1x256_1 (shiftOf (W2 m ρ c (Proc.devRef .tc main_arg8)) (W2 m ρ c (Proc.devRef .tc main_arg9)) (sum2 (W2 m ρ c (Proc.devRef .tc main_v2_2))) (sum3 (W2 m ρ c (Proc.devRef .tc main_v2_2))))⟩]
    concatenates_S1x256_S1x256_S1x256_S1x256_S4x256_d0 := by
  show StableHlo.after hostOps1 (W2 m ρ c) _ = _
  generalize W2 m ρ c = V
  after_results; rfl

theorem W5_v44 : W5 m ρ c (Proc.devRef .tc main_v44) = concatenate S10000x4 1
    [⟨S10000x3, W4 m ρ c (Proc.devRef .tc main_arg2)⟩,
     ⟨S10000x1, broadcastInDim S10000x1 ![0] bcast_S10000_S10000x1_0 (Host.reduceAdd (F := Ideal) (φ := .f32) (mulf (F := Ideal) (φ := .f32) (W4 m ρ c (Proc.devRef .tc main_arg2)) (W4 m ρ c (Proc.devRef .tc main_arg2))) (constant (F := Ideal) S_ .f32 0x00000000#32) reducesTo_S10000x3_S10000_d1 h_S_)⟩]
    concatenates_S10000x3_S10000x1_S10000x4_d1 := by
  show StableHlo.after hostOps2 (W4 m ρ c) _ = _
  generalize W4 m ρ c = V
  after_results

theorem W5_v45 : W5 m ρ c (Proc.devRef .tc main_v45)
    = transpose S4x10000 [1, 0] (W5 m ρ c (Proc.devRef .tc main_v44)) transposes_S10000x4_S4x10000_1_0 := by
  rw [W5_v44]
  show StableHlo.after hostOps2 (W4 m ρ c) _ = _
  generalize W4 m ρ c = V
  after_results

theorem W1_v0 : W1 m ρ c (Proc.devRef .tc main_v0)
    = transpose S256x256 [1, 0] (W0 m ρ c (Proc.devRef .tc main_arg4)) transposes_S256x256_S256x256_1_0 := by
  show StableHlo.after hostOps0 (W0 m ρ c) _ = _
  generalize W0 m ρ c = V
  after_results

theorem W1_v1 : W1 m ρ c (Proc.devRef .tc main_v1)
    = transpose S256x256 [1, 0] (W0 m ρ c (Proc.devRef .tc main_arg7)) transposes_S256x256_S256x256_1_0 := by
  show StableHlo.after hostOps0 (W0 m ρ c) _ = _
  generalize W0 m ρ c = V
  after_results

end Cert.KernelIdeal.Value

end
-- ==== Proof.Arr1.lean ====
module

public import proofs.«01_k».proof.Proof.Blocks
public import proofs.«01_k».proof.Proof.KTail

@[expose] public section

set_option maxRecDepth 16384

/-! What the second region's two arrays hold: the normalised tables. -/

noncomputable section

namespace Cert.KernelIdeal.Value

open Idealize.ShloMosaic Idealize.ShloMosaic.TcCoe Idealize.SL.Sem
open Idealize.ShloMosaic.Pipeline (Dat)
open Cert.KernelIdeal Cert.KernelIdeal.Gen

/-- A table times one row of coefficients plus another. -/
def affOf (h : Vec Ideal S10000x256 .f32) (ab : Vec Ideal S4x256 .f32) (i k : Fin 4) : Vec Ideal S10000x256 .f32 :=
  fun j => h j * ab (ix2 i (j 1)) + ab (ix2 k (j 1))

theorem aff_apply (ab : Vec Ideal S4x256 .f32) (h : Vec Ideal S400x256 .f32) (r : Fin 400) (l : Fin 256) :
    k1_pay2 ab h (ix2 r l) = h (ix2 r l) * ab (ix2 0 l) + ab (ix2 1 l) := by
  pointwise [k1_pay2, k1_pay1]

/-- The rectifier of one entry. -/
def leaky1 (x : EReal) : EReal := Scalar.select (Ideal.cmp .ogt x 0) x (Ideal.ofBits .f32 0x3C23D70A#32 * x)

theorem leakyOf_apply (t : FVec Ideal S10000x256 .f32) (p : Fin 10000) (l : Fin 256) : leakyOf t (ix2 p l) = leaky1 (t (ix2 p l)) := by
  unfold leaky1
  pointwise [leakyOf]

theorem leaky_apply (ab : Vec Ideal S4x256 .f32) (h : Vec Ideal S400x256 .f32) (r : Fin 400) (l : Fin 256) :
    k1_pay3 ab h (ix2 r l) = leaky1 (h (ix2 r l) * ab (ix2 2 l) + ab (ix2 3 l)) := by
  unfold leaky1
  pointwise [k1_pay3, k1_pay1]

variable (V : (c : Dev nD) → (b : Ref sig .tc) → Buf (Elt Ideal) ((c : Thread nD τ).loc b)) (c : Dev nD)

theorem arr1_3 : (dat1 V c).arrAt 3 cfg1.N = affOf (V c main_v2_0) (V c main_v39) 0 1 := by
  refine (dat1 V c).arrAt_eq_of_cover 3 (affOf (V c main_v2_0) (V c main_v39) 0 1) (fun t _ => ?_) covered1_3
  show (cfg1.win 3).cut (grid1.coords t) ((dat1 V c).after 3 t) = _
  rw [after1_3]
  unfold out1_3
  rw [View.canon_unit_zero hz, View.ld_unit_zero hz, View.ld_unit_zero hz]
  funext j
  obtain ⟨r, l, rfl⟩ : ∃ (r : Fin 400) (l : Fin 256), j = ix2 r l := ⟨j 0, j 1, eq_ix2 j⟩
  refine Eq.trans ?_ (blk1_3 c _ t r l).symm
  show k1_pay2 _ _ (ix2 r l) = _
  rw [aff_apply]
  exact congrArg₂ (· + ·) (congrArg₂ (· * ·) (blk1_0 c (V c main_v2_0) t r l) (blk1_2 c (V c main_v39) t 0 l)) (blk1_2 c (V c main_v39) t 1 l)

theorem arr1_4 : (dat1 V c).arrAt 4 cfg1.N = leakyOf (affOf (V c main_v2_1) (V c main_v39) 2 3) := by
  refine (dat1 V c).arrAt_eq_of_cover 4 (leakyOf (affOf (V c main_v2_1) (V c main_v39) 2 3)) (fun t _ => ?_) covered1_4
  show (cfg1.win 4).cut (grid1.coords t) ((dat1 V c).after 4 t) = _
  rw [after1_4]
  unfold out1_4
  rw [View.canon_unit_zero hz, View.ld_unit_zero hz, View.ld_unit_zero hz]
  funext j
  obtain ⟨r, l, rfl⟩ : ∃ (r : Fin 400) (l : Fin 256), j = ix2 r l := ⟨j 0, j 1, eq_ix2 j⟩
  refine Eq.trans ?_ (blk1_4 c _ t r l).symm
  show k1_pay3 _ _ (ix2 r l) = _
  rw [leaky_apply, leakyOf_apply]
  exact congrArg leaky1 (congrArg₂ (· + ·) (congrArg₂ (· * ·) (blk1_1 c (V c main_v2_1) t r l) (blk1_2 c (V c main_v39) t 2 l)) (blk1_2 c (V c main_v39) t 3 l))

end Cert.KernelIdeal.Value

end
-- ==== Proof.Arr0.lean ====
module

public import proofs.«01_k».proof.Proof.Blocks

@[expose] public section

set_option maxRecDepth 16384

/-! What the first region's three arrays hold: the two whole products, and their columns' sums. -/

noncomputable section

namespace Cert.KernelIdeal.Value

open Idealize.ShloMosaic Idealize.ShloMosaic.TcCoe Idealize.SL.Sem
open Idealize.ShloMosaic.Pipeline (Dat)
open Cert.KernelIdeal Cert.KernelIdeal.Gen

/-- The product of the table and a square matrix. -/
def mmOf (A : Vec Ideal S10000x256 .f32) (B : Vec Ideal S256x256 .f32) : Vec Ideal S10000x256 .f32 :=
  fun j => ∑ k : Fin 256, A (ix2 (j 0) k) * B (ix2 k (j 1))

theorem pay1_apply (x : Vec Ideal S400x256 .f32) (w : Vec Ideal S256x256 .f32) (r : Fin 400) (l : Fin 256) :
    k0_pay1 x w (ix2 r l) = ∑ k : Fin 256, x (ix2 r k) * w (ix2 k l) := by
  pointwise [k0_pay1]

theorem pay2_apply (x : Vec Ideal S400x256 .f32) (w : Vec Ideal S256x256 .f32) (r : Fin 400) (l : Fin 256) :
    k0_pay2 x w (ix2 r l) = ∑ k : Fin 256, x (ix2 r k) * w (ix2 k l) := by
  pointwise [k0_pay2]

theorem pay4_0 (x y : Vec Ideal S400x256 .f32) (w z : Vec Ideal S256x256 .f32) (s : Vec Ideal S4x256 .f32) (l : Fin 256) :
    k0_pay4 x w y z s (ix2 0 l) = s (ix2 0 l) + ∑ r : Fin 400, k0_pay1 x w (ix2 r l) := by
  generalize hu : k0_pay1 x w = u
  unfold k0_pay4
  rw [hu]
  pointwise []

theorem pay4_1 (x y : Vec Ideal S400x256 .f32) (w z : Vec Ideal S256x256 .f32) (s : Vec Ideal S4x256 .f32) (l : Fin 256) :
    k0_pay4 x w y z s (ix2 1 l) = s (ix2 1 l) + ∑ r : Fin 400, k0_pay1 x w (ix2 r l) * k0_pay1 x w (ix2 r l) := by
  generalize hu : k0_pay1 x w = u
  unfold k0_pay4
  rw [hu]
  pointwise []

theorem pay4_2 (x y : Vec Ideal S400x256 .f32) (w z : Vec Ideal S256x256 .f32) (s : Vec Ideal S4x256 .f32) (l : Fin 256) :
    k0_pay4 x w y z s (ix2 2 l) = s (ix2 2 l) + ∑ r : Fin 400, k0_pay2 y z (ix2 r l) := by
  generalize hu : k0_pay2 y z = u
  unfold k0_pay4
  rw [hu]
  pointwise []

theorem pay4_3 (x y : Vec Ideal S400x256 .f32) (w z : Vec Ideal S256x256 .f32) (s : Vec Ideal S4x256 .f32) (l : Fin 256) :
    k0_pay4 x w y z s (ix2 3 l) = s (ix2 3 l) + ∑ r : Fin 400, k0_pay2 y z (ix2 r l) * k0_pay2 y z (ix2 r l) := by
  generalize hu : k0_pay2 y z = u
  unfold k0_pay4
  rw [hu]
  pointwise []

theorem pay3_apply (i : Fin 4) (l : Fin 256) : k0_pay3 (F := Ideal) (ix2 i l) = 0 := by
  pointwise [k0_pay3]

/-- What row `p` adds to the `i`-th sum of column `l`: an entry of the first or second table, or its square. -/
def statTerm (hu hp : Vec Ideal S10000x256 .f32) (i : Fin 4) (p : Fin 10000) (l : Fin 256) : EReal :=
  match i with
  | 0 => hu (ix2 p l)
  | 1 => hu (ix2 p l) * hu (ix2 p l)
  | 2 => hp (ix2 p l)
  | 3 => hp (ix2 p l) * hp (ix2 p l)

/-- The four sums of each column. -/
def statsOf (hu hp : Vec Ideal S10000x256 .f32) : Vec Ideal S4x256 .f32 :=
  fun j => ∑ p : Fin 10000, statTerm hu hp (j 0) p (j 1)

variable (V : (c : Dev nD) → (b : Ref sig .tc) → Buf (Elt Ideal) ((c : Thread nD τ).loc b)) (c : Dev nD)

theorem arr0_4 : (dat0 V c).arrAt 4 cfg0.N = mmOf (V c main_arg0) (V c main_v0) := by
  refine (dat0 V c).arrAt_eq_of_cover 4 (mmOf (V c main_arg0) (V c main_v0)) (fun t _ => ?_) covered0_4
  show (cfg0.win 4).cut (grid0.coords t) ((dat0 V c).after 4 t) = _
  rw [after0_4, outs0_1]
  funext j
  obtain ⟨r, l, rfl⟩ : ∃ (r : Fin 400) (l : Fin 256), j = ix2 r l := ⟨j 0, j 1, eq_ix2 j⟩
  refine Eq.trans ?_ (blk0_4 c _ t r l).symm
  show k0_pay1 _ _ (ix2 r l) = _
  rw [pay1_apply]
  refine Finset.sum_congr rfl fun k _ => ?_
  exact congrArg₂ (· * ·) (blk0_0 c (V c main_arg0) t r k) (blk0_2 c (V c main_v0) t k l)

theorem arr0_5 : (dat0 V c).arrAt 5 cfg0.N = mmOf (V c main_arg1) (V c main_v1) := by
  refine (dat0 V c).arrAt_eq_of_cover 5 (mmOf (V c main_arg1) (V c main_v1)) (fun t _ => ?_) covered0_5
  show (cfg0.win 5).cut (grid0.coords t) ((dat0 V c).after 5 t) = _
  rw [after0_5, outs0_2]
  funext j
  obtain ⟨r, l, rfl⟩ : ∃ (r : Fin 400) (l : Fin 256), j = ix2 r l := ⟨j 0, j 1, eq_ix2 j⟩
  refine Eq.trans ?_ (blk0_5 c _ t r l).symm
  show k0_pay2 _ _ (ix2 r l) = _
  rw [pay2_apply]
  refine Finset.sum_congr rfl fun k _ => ?_
  exact congrArg₂ (· * ·) (blk0_1 c (V c main_arg1) t r k) (blk0_3 c (V c main_v1) t k l)

theorem entry_u (t : Fin cfg0.N) (r : Fin 400) (l : Fin 256) : k0_pay1 (iblk0 V c 0 t) (iblk0 V c 2 t) (ix2 r l)
    = mmOf (V c main_arg0) (V c main_v0) (ix2 (row t.val r (t.isLt.trans_eq N_0)) l) := by
  rw [pay1_apply]
  refine Finset.sum_congr rfl fun k _ => ?_
  exact congrArg₂ (· * ·) (blk0_0 c (V c main_arg0) t r k) (blk0_2 c (V c main_v0) t k l)

theorem entry_p (t : Fin cfg0.N) (r : Fin 400) (l : Fin 256) : k0_pay2 (iblk0 V c 1 t) (iblk0 V c 3 t) (ix2 r l)
    = mmOf (V c main_arg1) (V c main_v1) (ix2 (row t.val r (t.isLt.trans_eq N_0)) l) := by
  rw [pay2_apply]
  refine Finset.sum_congr rfl fun k _ => ?_
  exact congrArg₂ (· * ·) (blk0_1 c (V c main_arg1) t r k) (blk0_3 c (V c main_v1) t k l)

/-- One point adds its block's terms to the sums. -/
theorem step_sums (t : Fin cfg0.N) (s : Vec Ideal S4x256 .f32) (i : Fin 4) (l : Fin 256) :
    k0_pay4 (iblk0 V c 0 t) (iblk0 V c 2 t) (iblk0 V c 1 t) (iblk0 V c 3 t) s (ix2 i l)
      = s (ix2 i l) + ∑ r : Fin 400, statTerm (mmOf (V c main_arg0) (V c main_v0)) (mmOf (V c main_arg1) (V c main_v1)) i
          (row t.val r (t.isLt.trans_eq N_0)) l := by
  match i with
  | 0 => rw [pay4_0]; simp only [entry_u]; rfl
  | 1 => rw [pay4_1]; simp only [entry_u]; rfl
  | 2 => rw [pay4_2]; simp only [entry_p]; rfl
  | 3 => rw [pay4_3]; simp only [entry_p]; rfl

theorem sums_apply (i : Fin 4) (l : Fin 256) : ∀ (n : ℕ) (h : n < cfg0.N), sums V c n h (ix2 i l)
    = ∑ t : Fin (n + 1), ∑ r : Fin 400, statTerm (mmOf (V c main_arg0) (V c main_v0)) (mmOf (V c main_arg1) (V c main_v1)) i
        (row t.val r (by have := N_0; have := t.isLt; have : cfg0.N = 25 := N_0; omega)) l
  | 0, h => by
    refine (step_sums V c ⟨0, h⟩ _ i l).trans ?_
    rw [pay3_apply, zero_add, Fin.sum_univ_one]; rfl
  | n + 1, h => by
    refine (step_sums V c ⟨n + 1, h⟩ _ i l).trans ?_
    rw [sums_apply i l n, Fin.sum_univ_castSucc (n := n + 1)]; rfl

theorem arr0_6 : (dat0 V c).arrAt 6 cfg0.N
    = statsOf (mmOf (V c main_arg0) (V c main_v0)) (mmOf (V c main_arg1) (V c main_v1)) := by
  have hN : cfg0.N = 25 := N_0
  have hi : ∀ t : Fin cfg0.N, win0_6.index t 0 = 0 ∧ win0_6.index t 1 = 0 := by decide +kernel
  refine (dat0 V c).arrAt_eq_of_cover 6 (statsOf (mmOf (V c main_arg0) (V c main_v0)) (mmOf (V c main_arg1) (V c main_v1)))
    (fun t hf => ?_) fun i => ⟨⟨24, by omega⟩, (flush0_6 _).mpr rfl, ?_⟩
  · have h24 : t.val = 24 := by have := (flush0_6 t).mp hf; have := t.isLt; omega
    show (cfg0.win 6).cut (grid0.coords t) ((dat0 V c).after 6 t) = _
    rw [after0_6, outs0_3]
    funext j
    obtain ⟨i, l, rfl⟩ : ∃ (i : Fin 4) (l : Fin 256), j = ix2 i l := ⟨j 0, j 1, eq_ix2 j⟩
    rw [View.read_apply]
    have e : ((cfg0.win 6).blk t).view.emb (ix2 i l) = ix2 i l := funext fun a => Fin.ext (by
      match a with
      | ⟨0, _⟩ => show win0_6.index t 0 * 4 + 1 * i.val = i.val; rw [(hi t).1]; omega
      | ⟨1, _⟩ => show win0_6.index t 1 * 256 + 1 * l.val = l.val; rw [(hi t).2]; omega)
    refine Eq.trans ?_ (congrArg (statsOf _ _) e).symm
    show sums V c t.val _ (ix2 i l) = ∑ p : Fin 10000, statTerm _ _ i p l
    obtain ⟨n, hn⟩ := t
    obtain rfl : n = 24 := h24
    refine (sums_apply V c i l 24 hn).trans ?_
    refine Eq.trans ?_ (Fin.sum_univ_tiles 25 400 (by decide) _).symm
    refine Finset.sum_congr rfl fun t _ => Finset.sum_congr rfl fun r _ => ?_
    exact congrArg (fun p => statTerm _ _ i p l) (Fin.ext (by show 400 * t.val + r.val = t.val * 400 + r.val; omega))
  · have h0 : (i 0 : Nat) < 4 := (i 0).isLt
    have h1 : (i 1 : Nat) < 256 := (i 1).isLt
    generalize (⟨24, by omega⟩ : Fin cfg0.N) = t
    have e2 : win0_6.xsize (grid0.coords t) 0 = 4 ∧ win0_6.xsize (grid0.coords t) 1 = 256 := by
      revert t; decide +kernel
    show i ∈ ((View.whole main_v2_2).slice (win0_6.rect t)).set
    rw [View.set_slice_whole, Rect.mem_set_unit]
    intro a
    match a with
    | ⟨0, _⟩ => show win0_6.index t 0 * 4 ≤ (i 0 : Nat) ∧ (i 0 : Nat) < win0_6.index t 0 * 4 + win0_6.xsize (grid0.coords t) 0
                rw [(hi t).1, e2.1]; omega
    | ⟨1, _⟩ => show win0_6.index t 1 * 256 ≤ (i 1 : Nat) ∧ (i 1 : Nat) < win0_6.index t 1 * 256 + win0_6.xsize (grid0.coords t) 1
                rw [(hi t).2, e2.2]; omega

end Cert.KernelIdeal.Value

end
-- ==== Proof.SelEq.lean ====
module

public import proofs.«01_k».proof.Proof.RSel
public import proofs.«01_k».proof.Proof.KHost
public import proofs.«01_k».proof.Proof.Arr1
public import proofs.«01_k».proof.Proof.Arr0

@[expose] public section

set_option maxRecDepth 16384

/-! The kernel's selection and the reference's are one: the same flags, and the same indices where the flag is set. -/

noncomputable section

namespace Cert.KernelIdeal.Value

open Idealize.ShloMosaic Idealize.ShloMosaic.TcCoe Idealize.SL.Sem Idealize.ShloMosaic.StableHlo
open Cert.KernelIdeal Cert.KernelIdeal.Gen
open Cert.Select

theorem flag_of_slots {D : ℕ → EReal} {k : ℕ} {v v' : EReal} {i i' : BitVec 32}
    (h : Slot D 10000 k v i.toInt) (h' : Slot D 10000 k v' i'.toInt) :
    flagOf v i = BitVec.ofBool (decide (Ideal.ofBits .f32 0xBC23D70A#32 < -v'))
      ∧ (flagOf v i = 1#1 → Scalar.select (flagOf v i) i 0#32 = i') := by
  obtain ⟨rfl, hi⟩ := h.unique h'
  rw [Cert.Lits.neg_thr_bits, decide_eq_decide.mpr EReal.neg_lt_neg_iff]
  by_cases hv : v < Ideal.ofBits .f32 0x3C23D70A#32
  · have hf : v < ⊤ := hv.trans Cert.Lits.thr_bits
    have e : i = i' := BitVec.eq_of_toInt_eq (hi hf)
    have hpos : (0 : ℤ) ≤ i.toInt := by
      rcases h with ⟨j, -, -, -, -, e⟩ | ⟨e, -⟩
      · rw [e]; exact Int.natCast_nonneg j
      · exact absurd hf (by rw [e]; exact lt_irrefl _)
    have hg : flagOf v i = 1#1 := by
      unfold flagOf
      rw [decide_eq_true hv]
      have : IntOp.cmpi .sge i 0#32 = 1#1 := by
        show BitVec.ofBool (BitVec.sle 0#32 i) = 1#1
        rw [show BitVec.sle 0#32 i = true from by simpa [BitVec.sle] using hpos]; rfl
      rw [this]; rfl
    rw [hg, decide_eq_true hv]
    exact ⟨rfl, fun _ => e⟩
  · have hg : flagOf v i = 0#1 := by
      unfold flagOf
      rw [decide_eq_false hv]
      exact BitVec.zero_and
    rw [hg, decide_eq_false hv]
    exact ⟨rfl, fun h => absurd h (by decide)⟩

variable (m : (ℓ : Loc nD τ sig) → Buf (Elt Ideal) ℓ) (ρ : Dev nD → PrngReg) (c : Dev nD)

theorem W6_col : W6 m ρ c (Proc.devRef .tc main_v46_0) = colArr (V5 m ρ) c := (W6_arr m ρ c 2).trans (arr2_2 _ c)
theorem W6_flag : W6 m ρ c (Proc.devRef .tc main_v46_1) = flagArr (V5 m ρ) c := (W6_arr m ρ c 3).trans (arr2_3 _ c)

theorem valid_apply (p : Fin 10000) (k : Fin 16) : validOf (flagArr (V5 m ρ) c) (ix2 p k) = flagOf (keptVal (V5 m ρ) c p k) (keptIdx (V5 m ρ) c p k) := by
  have h : validOf (flagArr (V5 m ρ) c) (ix2 p k) = IntOp.cmpi .ne (BitVec.setWidth 32 (flagOf (keptVal (V5 m ρ) c p k) (keptIdx (V5 m ρ) c p k))) 0#32 := by
    have e : flagArr (V5 m ρ) c (ix2 p k) = BitVec.setWidth 32 (flagOf (keptVal (V5 m ρ) c p k) (keptIdx (V5 m ρ) c p k)) := rfl
    rw [← e]
    generalize flagArr (V5 m ρ) c = f
    pointwise [validOf]
  rw [h]
  generalize flagOf (keptVal (V5 m ρ) c p k) (keptIdx (V5 m ρ) c p k) = b
  revert b; decide

theorem pts_len (pos : FVec Ideal S10000x3 .f32) (p : Fin 10000) : concatenate S10000x4 1
    [⟨S10000x3, pos⟩,
     ⟨S10000x1, broadcastInDim S10000x1 ![0] bcast_S10000_S10000x1_0 (Host.reduceAdd (F := Ideal) (φ := .f32) (mulf (F := Ideal) (φ := .f32) pos pos) (constant (F := Ideal) S_ .f32 0x00000000#32) reducesTo_S10000x3_S10000_d1 h_S_)⟩]
    concatenates_S10000x3_S10000x1_S10000x4_d1 (ix2 p 3) = sqOf pos p := by
  pointwise [sqOf]

theorem pts_pos (pos : FVec Ideal S10000x3 .f32) (p : Fin 10000) (x : Fin 3) : concatenate S10000x4 1
    [⟨S10000x3, pos⟩,
     ⟨S10000x1, broadcastInDim S10000x1 ![0] bcast_S10000_S10000x1_0 (Host.reduceAdd (F := Ideal) (φ := .f32) (mulf (F := Ideal) (φ := .f32) pos pos) (constant (F := Ideal) S_ .f32 0x00000000#32) reducesTo_S10000x3_S10000_d1 h_S_)⟩]
    concatenates_S10000x3_S10000x1_S10000x4_d1 (ix2 p ⟨x.val, by omega⟩) = pos (ix2 p x) := by
  pointwise

theorem pts_transpose (v : FVec Ideal S10000x4 .f32) (a : Fin 4) (p : Fin 10000) :
    transpose S4x10000 [1, 0] v transposes_S10000x4_S4x10000_1_0 (ix2 a p) = v (ix2 p a) := by
  pointwise

theorem kernel_slot (p : Fin 10000) (k : Fin 16) : Slot (distRow (m ((c : Thread nD τ).loc main_arg2)) p) 10000 k.val
    (keptVal (V5 m ρ) c p k) (keptIdx (V5 m ρ) c p k).toInt := by
  have e : W4 m ρ c (Proc.devRef .tc main_arg2) = m ((c : Thread nD τ).loc main_arg2) := W4_args m ρ c main_arg2 (by decide)
  refine kept_slot (V5 m ρ) c (m ((c : Thread nD τ).loc main_arg2)) (fun p => ?_) (fun p x => ?_) (fun a p => ?_) p k
  · refine (congrFun (W5_v44 m ρ c) _).trans ?_
    rw [e]; exact pts_len _ p
  · refine (congrFun (W5_v44 m ρ c) _).trans ?_
    rw [e]; exact pts_pos _ p x
  · exact (congrFun (W5_v45 m ρ c) _).trans (pts_transpose _ a p)

theorem colArr_apply (V : (c : Dev nD) → (b : Ref sig .tc) → Buf (Elt Ideal) ((c : Thread nD τ).loc b)) (p : Fin 10000) (k : Fin 16) : colArr V c (ix2 p k)
   = Scalar.select (flagOf (keptVal V c p k) (keptIdx V c p k)) (keptIdx V c p k) 0#32 := rfl

variable (m' : (ℓ : Loc Cert.ReferenceIdeal.nD Cert.ReferenceIdeal.τ Cert.ReferenceIdeal.sig) → Buf (Elt Ideal) ℓ)
open Cert.ReferenceIdeal.Value (X3)

theorem sel_eq (hpos : m' ((c : Thread nD τ).loc Cert.ReferenceIdeal.main_arg2) = m ((c : Thread nD τ).loc main_arg2))
    (hb : ∀ i j : Fin 10000, m' ((c : Thread nD τ).loc Cert.ReferenceIdeal.main_arg3) (ix1 i) = m' ((c : Thread nD τ).loc Cert.ReferenceIdeal.main_arg3) (ix1 j)) (p : Fin 10000) (k : Fin 16) :
    validOf (flagArr (V5 m ρ) c) (ix2 p k) = X3 m' c (Proc.devRef .tc Cert.ReferenceIdeal.main_v29) (ix2 p k)
    ∧ (X3 m' c (Proc.devRef .tc Cert.ReferenceIdeal.main_v29) (ix2 p k) = 1#1 →
        colArr (V5 m ρ) c (ix2 p k) = X3 m' c (Proc.devRef .tc Cert.ReferenceIdeal.main_indices) (ix2 p k)) := by
  have h1 := kernel_slot m ρ c p k
  have h2 := Cert.ReferenceIdeal.Value.ref_slot m' c hb p k
  rw [hpos] at h2
  have h := flag_of_slots h1 h2
  rw [neg_neg] at h
  rw [valid_apply, colArr_apply, Cert.ReferenceIdeal.Value.ref_valid, ← h.1]
  exact ⟨rfl, h.2⟩

end Cert.KernelIdeal.Value

end
-- ==== Proof.RTail.lean ====
module

public import proofs.«01_k».proof.Proof.RefRun
public import proofs.«01_k».proof.Proof.KTail

@[expose] public section

set_option maxRecDepth 16384

/-! What the reference's host code computes after the selection and the normalised tables, in the same terms as the kernel's. -/

noncomputable section

namespace Cert.ReferenceIdeal.Value

open Idealize.ShloMosaic Idealize.ShloMosaic.TcCoe Idealize.SL.Sem Idealize.ShloMosaic.StableHlo
open Cert.ReferenceIdeal Cert.ReferenceIdeal.Gen
open Cert.KernelIdeal.Value (simOf logitOf topOf safeOf expOf sumOf denOf weightOf aggOf leakyOf weights)

variable (m : (ℓ : Loc nD τ sig) → Buf (Elt Ideal) ℓ) (c : Dev nD)

theorem X5_v101 : X5 m c (Proc.devRef .tc main_v101) = simOf (X4 m c (Proc.devRef .tc main_v88)) (X4 m c (Proc.devRef .tc main_indices)) := by
  show after hostOps0_4 (X4 m c) (Proc.devRef .tc main_v101) = _
  generalize X4 m c = V
  after_results; rfl

theorem X6_v102 : X6 m c (Proc.devRef .tc main_v102) = logitOf (X5 m c (Proc.devRef .tc main_v101)) (X4 m c (Proc.devRef .tc main_v29)) := by
  have e : X5 m c (Proc.devRef .tc main_cst_18) = constant (F := Ideal) S_ .f32 0xFF800000#32 := by
    show after hostOps0_4 (X4 m c) (Proc.devRef .tc main_cst_18) = _
    generalize X4 m c = V
    after_results
  rw [← X5_of m c main_v29 (by decide)]
  show after hostOps0_5 (X5 m c) (Proc.devRef .tc main_v102) = _
  generalize X5 m c = V at e ⊢
  after_results
  rw [e]; rfl

theorem X7_v104 : X7 m c (Proc.devRef .tc main_v104) = topOf (X6 m c (Proc.devRef .tc main_v102)) := by
  show after hostOps0_6 (X6 m c) (Proc.devRef .tc main_v104) = _
  generalize X6 m c = V
  after_results; rfl

theorem X8_v108 : X8 m c (Proc.devRef .tc main_v108) = safeOf (topOf (X6 m c (Proc.devRef .tc main_v102))) := by
  have e68 : X7 m c (Proc.devRef .tc main_v107) = cmpf (F := Ideal) .olt (Host.absf (topOf (X6 m c (Proc.devRef .tc main_v102))))
      (broadcastInDim S10000x1 ![] bcast_S_S10000x1 (constant S_ .f32 0x7F800000#32)) := by
    show after hostOps0_6 (X6 m c) _ = _
    generalize X6 m c = V
    after_results; rfl
  have e12 : X7 m c (Proc.devRef .tc main_cst_21) = constant (F := Ideal) S_ .f32 0x00000000#32 := by
    show after hostOps0_6 (X6 m c) _ = _
    generalize X6 m c = V
    after_results
  have h : X8 m c (Proc.devRef .tc main_v108) = select (X7 m c (Proc.devRef .tc main_v107)) (X7 m c (Proc.devRef .tc main_v104))
      (broadcastInDim S10000x1 ![] bcast_S_S10000x1 (constant (F := Ideal) S_ .f32 0x00000000#32)) := by
    show after hostOps0_7 (X7 m c) _ = _
    generalize X7 m c = V at e12 ⊢
    after_results
    rw [e12]; rfl
  rw [h, X7_v104, e68]; rfl

theorem X10_v112 : X10 m c (Proc.devRef .tc main_v112) = expOf (X6 m c (Proc.devRef .tc main_v102)) (X4 m c (Proc.devRef .tc main_v29)) := by
  have e1 : X8 m c (Proc.devRef .tc main_v102) = X6 m c (Proc.devRef .tc main_v102) :=
    (X8_of m c _ (by decide)).trans (X7_of m c _ (by decide))
  have e2 : X8 m c (Proc.devRef .tc main_v29) = X4 m c (Proc.devRef .tc main_v29) :=
    (X8_of m c _ (by decide)).trans ((X7_of m c _ (by decide)).trans ((X6_of m c _ (by decide)).trans (X5_of m c _ (by decide))))
  have h : X10 m c (Proc.devRef .tc main_v112) = select (X8 m c (Proc.devRef .tc main_v29))
      (Host.exp (subf (X8 m c (Proc.devRef .tc main_v102)) (broadcastInDim S10000x16 ![0, 1] bcast_S10000x1_S10000x16_0_1 (X8 m c (Proc.devRef .tc main_v108)))))
      (broadcastInDim S10000x16 ![] bcast_S_S10000x16 (constant (F := Ideal) S_ .f32 0x00000000#32)) := by
    show after hostOps0_9 (after hostOps0_8 (X8 m c)) (Proc.devRef .tc main_v112) = _
    generalize X8 m c = V
    after_results; rfl
  rw [h, e1, e2, X8_v108]; rfl

theorem X12_v117 : X12 m c (Proc.devRef .tc main_v117) = denOf (sumOf (X10 m c (Proc.devRef .tc main_v112))) := by
  show after hostOps0_11 (after hostOps0_10 (X10 m c)) (Proc.devRef .tc main_v117) = _
  generalize X10 m c = V
  after_results; rfl

/-- The weights at the loop's entry. -/
theorem X13_v119 : X13 m c (Proc.devRef .tc main_v119) =
    weights (X4 m c (Proc.devRef .tc main_v88)) (X4 m c (Proc.devRef .tc main_indices)) (X4 m c (Proc.devRef .tc main_v29)) := by
  have e : X12 m c (Proc.devRef .tc main_v112) = X10 m c (Proc.devRef .tc main_v112) :=
    (X12_of m c _ (by decide)).trans (X11_of m c _ (by decide))
  have h : X13 m c (Proc.devRef .tc main_v119) = Host.divf (F := Ideal) (s := S10000x16) (φ := .f32) (X12 m c (Proc.devRef .tc main_v112))
      (broadcastInDim S10000x16 ![0, 1] bcast_S10000x1_S10000x16_0_1 (X12 m c (Proc.devRef .tc main_v117))) := by
    show after hostOps0_12 (X12 m c) (Proc.devRef .tc main_v119) = _
    generalize X12 m c = V
    after_results
  rw [h, e, X12_v117, X10_v112, X6_v102, X5_v101]
  rfl

/-- What is not written between the tables and the loop, nor in the loop, is at the loop's end as the tables' stretch left it. -/
theorem XL_kept (r : Ref sig .tc) (h : r ∉ condOps_W ∧ r ∉ while0Ops0_W ∧ r ∉ while0Ops0_1_W ∧ r ∉ while0Ops0_2_W ∧ r ∉ while0Ops0_3_W
    ∧ r ∉ while0Ops0_4_W) : XL m c (Proc.devRef .tc r) = X13 m c (Proc.devRef .tc r) := by
  obtain ⟨hc, b0, b1, b2, b3, b4⟩ := h
  rw [XL_atK m c r hc, atK_of m c r hc b0 b1 b2 b3 b4 256]

theorem X13_kept (r : Ref sig .tc) (h : r ∉ hostOps0_4_W ∧ r ∉ hostOps0_5_W ∧ r ∉ hostOps0_6_W ∧ r ∉ hostOps0_7_W ∧ r ∉ hostOps0_8_W
    ∧ r ∉ hostOps0_9_W ∧ r ∉ hostOps0_10_W ∧ r ∉ hostOps0_11_W ∧ r ∉ hostOps0_12_W) :
    X13 m c (Proc.devRef .tc r) = X4 m c (Proc.devRef .tc r) := by
  obtain ⟨h4, h5, h6, h7, h8, h9, h10, h11, h12⟩ := h
  rw [X13_of m c r h12, X12_of m c r h11, X11_of m c r h10, X10_of m c r h9, X9_of m c r h8, X8_of m c r h7, X7_of m c r h6,
    X6_of m c r h5, X5_of m c r h4]

/-- The products after the aggregation. -/
def mixOf (xu agg : FVec Ideal S10000x256 .f32) (M B : FVec Ideal S256x256 .f32) : FVec Ideal S10000x256 .f32 :=
  Host.dotGeneral dot_S10000x256_S256x256_S10000x256_1_0_0_1_n_n none
    (addf xu (Host.dotGeneral dot_S10000x256_S256x256_S10000x256_1_0_0_1_n_n none agg M)) B

theorem X15_v154 : X15 m c (Proc.devRef .tc main_v154) = leakyOf (mixOf (XL m c (Proc.devRef .tc main_v56))
    (aggOf (XL m c (Proc.devRef .tc main_v56)) (XL m c (Proc.devRef .tc main_indices)) (XL m c (Proc.devRef .tc main_v119)))
    (XL m c (Proc.devRef .tc main_v121)) (XL m c (Proc.devRef .tc main_v135_4))) := by
  show after hostOps0_14 (after hostOps0_13 (XL m c)) (Proc.devRef .tc main_v154) = _
  generalize XL m c = V
  after_results; rfl

/-- The reference's result from the contents after the tables, the square of `c` and the inverse. -/
theorem result_eq : X15 m c (Proc.devRef .tc main_v154) = leakyOf (mixOf (X4 m c (Proc.devRef .tc main_v56))
    (aggOf (X4 m c (Proc.devRef .tc main_v56)) (X4 m c (Proc.devRef .tc main_indices))
      (weights (X4 m c (Proc.devRef .tc main_v88)) (X4 m c (Proc.devRef .tc main_indices)) (X4 m c (Proc.devRef .tc main_v29))))
    (X13 m c (Proc.devRef .tc main_v121)) (atK m 256 c (Proc.devRef .tc main_v135_4))) := by
  rw [X15_v154, XL_kept m c main_v56 (by decide), XL_kept m c main_indices (by decide), XL_kept m c main_v119 (by decide),
    XL_kept m c main_v121 (by decide), X13_kept m c main_v56 (by decide), X13_kept m c main_indices (by decide), X13_v119,
    XL_atK m c main_v135_4 (by decide)]

end Cert.ReferenceIdeal.Value

end
-- ==== Proof.BNMath.lean ====
module

public import Idealize.ShloMosaic.Lib.Pointwise
public import proofs.«01_k».proof.Proof.Lits

@[expose] public section

/-! The batch normalisation in two forms: from the sums of the values and of the squares, and from the deviations. -/

noncomputable section

namespace Cert.BN

open Idealize.ShloMosaic

theorem sum_coe {n : ℕ} (f : Fin n → ℝ) : ∑ p, ((f p : ℝ) : EReal) = ((∑ p, f p : ℝ) : EReal) := by
  have : ∀ s : Finset (Fin n), ∑ p ∈ s, ((f p : ℝ) : EReal) = ((∑ p ∈ s, f p : ℝ) : EReal) := by
    intro s
    induction s using Finset.induction_on with
    | empty => simp
    | insert a s ha ih => rw [Finset.sum_insert ha, Finset.sum_insert ha, ih, EReal.coe_add]
  exact this Finset.univ

/-- The mean of the squares less the square of the mean is the mean of the squared deviations. -/
theorem var_eq (f : Fin 10000 → ℝ) : (∑ p, f p * f p) / 10000 - (∑ p, f p) / 10000 * ((∑ p, f p) / 10000)
    = (∑ p, (f p - (∑ q, f q) / 10000) * (f p - (∑ q, f q) / 10000)) / 10000 := by
  generalize hm : (∑ q, f q) / 10000 = u
  have hs : ∑ q, f q = 10000 * u := by rw [← hm]; ring
  have : ∑ p, (f p - u) * (f p - u) = ∑ p, f p * f p - 2 * u * ∑ p, f p + 10000 * (u * u) := by
    have e : ∀ p, (f p - u) * (f p - u) = f p * f p - 2 * u * f p + u * u := fun p => by ring
    rw [Finset.sum_congr rfl fun p _ => e p, Finset.sum_add_distrib, Finset.sum_sub_distrib, ← Finset.mul_sum]
    simp
  rw [this, hs]
  ring

theorem div_n (x : ℝ) : Ideal.div (x : EReal) (Ideal.ofBits .f32 0x461C4000#32) = ((x / 10000 : ℝ) : EReal) := by
  rw [Cert.Lits.n_bits, Ideal.div_coe (by norm_num), ← EReal.coe_mul]
  congr 1
  ring

theorem norm_eq (f : Fin 10000 → ℝ) (g b : ℝ) (p : Fin 10000) (h : Fin 10000 → EReal) (hh : ∀ q, h q = (f q : EReal)) :
    h p * ((g : EReal) * Ideal.rsqrt (Ideal.div (∑ q, h q * h q) (Ideal.ofBits .f32 0x461C4000#32)
        - Ideal.div (∑ q, h q) (Ideal.ofBits .f32 0x461C4000#32) * Ideal.div (∑ q, h q) (Ideal.ofBits .f32 0x461C4000#32) + Ideal.ofBits .f32 0x3727C5AC#32))
      + ((b : EReal) - Ideal.div (∑ q, h q) (Ideal.ofBits .f32 0x461C4000#32) * ((g : EReal) * Ideal.rsqrt (Ideal.div (∑ q, h q * h q) (Ideal.ofBits .f32 0x461C4000#32)
        - Ideal.div (∑ q, h q) (Ideal.ofBits .f32 0x461C4000#32) * Ideal.div (∑ q, h q) (Ideal.ofBits .f32 0x461C4000#32) + Ideal.ofBits .f32 0x3727C5AC#32)))
    = Ideal.div (h p - Ideal.div (∑ q, h q) (Ideal.ofBits .f32 0x461C4000#32))
        (Ideal.sqrt (Ideal.div (∑ r, (h r - Ideal.div (∑ q, h q) (Ideal.ofBits .f32 0x461C4000#32)) * (h r - Ideal.div (∑ q, h q) (Ideal.ofBits .f32 0x461C4000#32))) (Ideal.ofBits .f32 0x461C4000#32) + Ideal.ofBits .f32 0x3727C5AC#32))
      * (g : EReal) + (b : EReal) := by
  obtain ⟨e, he, hE⟩ := Cert.Lits.eps_bits
  rw [hE]
  simp only [hh, ← EReal.coe_mul, sum_coe, div_n, ← EReal.coe_sub, ← EReal.coe_add]
  rw [var_eq f]
  generalize hv : (∑ p, (f p - (∑ q, f q) / 10000) * (f p - (∑ q, f q) / 10000)) / 10000 = v
  have hv0 : 0 ≤ v := by
    rw [← hv]
    exact div_nonneg (Finset.sum_nonneg fun p _ => mul_self_nonneg _) (by norm_num)
  have hp : 0 < v + e := by linarith
  rw [Ideal.rsqrt_coe, if_neg (not_lt.mpr hp.le), if_neg hp.ne', Ideal.sqrt_coe, if_neg (not_lt.mpr hp.le),
    Ideal.div_coe (Real.sqrt_pos.mpr hp).ne']
  simp only [← EReal.coe_mul, ← EReal.coe_sub, ← EReal.coe_add]
  congr 1
  ring

end Cert.BN

end
-- ==== Proof.BN.lean ====
module

public import proofs.«01_k».proof.Proof.RTail
public import proofs.«01_k».proof.Proof.KHost
public import proofs.«01_k».proof.Proof.Arr0
public import proofs.«01_k».proof.Proof.Arr1
public import proofs.«01_k».proof.Proof.BNMath

@[expose] public section

set_option maxRecDepth 16384

/-! The two normalised tables: the kernel's and the reference's are one where the arguments are finite. -/

noncomputable section

namespace Cert

open Idealize.ShloMosaic Idealize.ShloMosaic.TcCoe Idealize.SL.Sem Idealize.ShloMosaic.StableHlo

/-- Entry `p`, `l` of a table times the transpose of a matrix. -/
def linOf (x : FVec Ideal ⟨2, ![10000, 256]⟩ .f32) (w : FVec Ideal ⟨2, ![256, 256]⟩ .f32) (p : Fin 10000) (l : Fin 256) : EReal :=
  ∑ k : Fin 256, x (ix2 p k) * w (ix2 l k)

/-- The mean over the rows, as a quotient. -/
def meanOf (h : Fin 10000 → EReal) : EReal := Ideal.div (∑ q, h q) (Ideal.ofBits .f32 0x461C4000#32)

/-- The normalisation of column entries from the deviations. -/
def normOf (h : Fin 10000 → EReal) (g b : EReal) (p : Fin 10000) : EReal :=
  Ideal.div (h p - meanOf h) (Ideal.sqrt (meanOf (fun r => (h r - meanOf h) * (h r - meanOf h)) + Ideal.ofBits .f32 0x3727C5AC#32)) * g + b

namespace ReferenceIdeal.Value

open Cert.ReferenceIdeal Cert.ReferenceIdeal.Gen
open Cert.KernelIdeal.Value (leakyOf)

def meanVec (h : FVec Ideal S10000x256 .f32) : FVec Ideal S256 .f32 :=
  Host.divf (Host.reduceAdd h (constant S_ .f32 0x00000000#32) reducesTo_S10000x256_S256_d0 h_S_) (broadcastInDim S256 ![] bcast_S_S256 (constant S_ .f32 0x461C4000#32))

def rowsVec (v : FVec Ideal S256 .f32) : FVec Ideal S10000x256 .f32 :=
  broadcastInDim S10000x256 ![0, 1] bcast_S1x256_S10000x256_0_1 (broadcastInDim S1x256 ![1] bcast_S256_S1x256_1 v)

def devVec (h : FVec Ideal S10000x256 .f32) : FVec Ideal S10000x256 .f32 := subf h (rowsVec (meanVec h))

def normVec (h : FVec Ideal S10000x256 .f32) (g b : FVec Ideal S256 .f32) : FVec Ideal S10000x256 .f32 :=
  addf (mulf (Host.divf (devVec h) (rowsVec (Host.sqrt (addf (meanVec (mulf (devVec h) (devVec h)))
    (broadcastInDim S256 ![] bcast_S_S256 (constant S_ .f32 0x3727C5AC#32)))))) (rowsVec g)) (rowsVec b)

def linVec (x : FVec Ideal S10000x256 .f32) (w : FVec Ideal S256x256 .f32) : FVec Ideal S10000x256 .f32 :=
  Host.dotGeneral dot_S10000x256_S256x256_S10000x256_1_0_0_1_n_n none x (transpose S256x256 [1, 0] w transposes_S256x256_S256x256_1_0)

variable (m : (ℓ : Loc nD τ sig) → Buf (Elt Ideal) ℓ) (c : Dev nD)

theorem X3_v56 : X3 m c (Proc.devRef .tc main_v56) = normVec (linVec (X2 m c (Proc.devRef .tc main_arg0)) (X2 m c (Proc.devRef .tc main_arg4)))
    (X2 m c (Proc.devRef .tc main_arg5)) (X2 m c (Proc.devRef .tc main_arg6)) := by
  show after hostOps0_2 (X2 m c) (Proc.devRef .tc main_v56) = _
  generalize X2 m c = V
  after_results; rfl

theorem X4_v88 : X4 m c (Proc.devRef .tc main_v88) = leakyOf (normVec (linVec (X2 m c (Proc.devRef .tc main_arg1)) (X2 m c (Proc.devRef .tc main_arg7)))
    (X2 m c (Proc.devRef .tc main_arg8)) (X2 m c (Proc.devRef .tc main_arg9))) := by
  show after hostOps0_3 (after hostOps0_2 (X2 m c)) (Proc.devRef .tc main_v88) = _
  generalize X2 m c = V
  after_results; rfl

theorem linVec_apply (x : FVec Ideal S10000x256 .f32) (w : FVec Ideal S256x256 .f32) (p : Fin 10000) (l : Fin 256) :
    linVec x w (ix2 p l) = linOf x w p l := by
  pointwise [linVec, linOf]

theorem meanVec_apply (h : FVec Ideal S10000x256 .f32) (l : Fin 256) : meanVec h (ix1 l) = meanOf fun q => h (ix2 q l) := by
  pointwise [meanVec, meanOf]

theorem devVec_apply (h : FVec Ideal S10000x256 .f32) (p : Fin 10000) (l : Fin 256) : devVec h (ix2 p l) = h (ix2 p l) - meanOf fun q => h (ix2 q l) := by
  rw [← meanVec_apply]
  unfold devVec
  generalize meanVec h = v
  pointwise [rowsVec]

theorem normVec_apply (h : FVec Ideal S10000x256 .f32) (g b : FVec Ideal S256 .f32) (p : Fin 10000) (l : Fin 256) :
    normVec h g b (ix2 p l) = normOf (fun q => h (ix2 q l)) (g (ix1 l)) (b (ix1 l)) p := by
  have e : ∀ q, mulf (devVec h) (devVec h) (ix2 q l) = (h (ix2 q l) - meanOf fun q => h (ix2 q l)) * (h (ix2 q l) - meanOf fun q => h (ix2 q l)) := by
    intro q
    rw [← devVec_apply]
    rfl
  unfold normOf
  rw [← devVec_apply]
  have e2 : meanOf (fun r => (h (ix2 r l) - meanOf fun q => h (ix2 q l)) * (h (ix2 r l) - meanOf fun q => h (ix2 q l))) = meanVec (mulf (devVec h) (devVec h)) (ix1 l) := by
    rw [meanVec_apply]
    exact congrArg meanOf (funext fun q => (e q).symm)
  rw [e2]
  unfold normVec
  generalize meanVec (mulf (devVec h) (devVec h)) = v
  generalize devVec h = d
  pointwise [rowsVec]

end ReferenceIdeal.Value

namespace KernelIdeal.Value

open Cert.KernelIdeal Cert.KernelIdeal.Gen

theorem mmOf_apply (x : Vec Ideal S10000x256 .f32) (w : Vec Ideal S256x256 .f32) (p : Fin 10000) (l : Fin 256) :
    mmOf x (transpose S256x256 [1, 0] w transposes_S256x256_S256x256_1_0) (ix2 p l) = linOf x w p l := by
  show ∑ k : Fin 256, x (ix2 p k) * transpose S256x256 [1, 0] w transposes_S256x256_S256x256_1_0 (ix2 k l) = _
  unfold linOf
  refine Finset.sum_congr rfl fun k _ => congrArg _ ?_
  pointwise

theorem coef_apply (r0 r1 r2 r3 : FVec Ideal S256 .f32) (l : Fin 256) (x : Vec Ideal S4x256 .f32) (hx : x = concatenate S4x256 0
    [⟨S1x256, broadcastInDim S1x256 ![1] bcast_S256_S1x256_1 r0⟩, ⟨S1x256, broadcastInDim S1x256 ![1] bcast_S256_S1x256_1 r1⟩,
     ⟨S1x256, broadcastInDim S1x256 ![1] bcast_S256_S1x256_1 r2⟩, ⟨S1x256, broadcastInDim S1x256 ![1] bcast_S256_S1x256_1 r3⟩]
    concatenates_S1x256_S1x256_S1x256_S1x256_S4x256_d0) :
    x (ix2 0 l) = r0 (ix1 l) ∧ x (ix2 1 l) = r1 (ix1 l) ∧ x (ix2 2 l) = r2 (ix1 l) ∧ x (ix2 3 l) = r3 (ix1 l) := by
  subst hx
  refine ⟨?_, ?_, ?_, ?_⟩ <;> pointwise

theorem sum0_apply (s : FVec Ideal S4x256 .f32) (l : Fin 256) : sum0 s (ix1 l) = s (ix2 0 l) := by pointwise [sum0]
theorem sum1_apply (s : FVec Ideal S4x256 .f32) (l : Fin 256) : sum1 s (ix1 l) = s (ix2 1 l) := by pointwise [sum1]
theorem sum2_apply (s : FVec Ideal S4x256 .f32) (l : Fin 256) : sum2 s (ix1 l) = s (ix2 2 l) := by pointwise [sum2]
theorem sum3_apply (s : FVec Ideal S4x256 .f32) (l : Fin 256) : sum3 s (ix1 l) = s (ix2 3 l) := by pointwise [sum3]

/-- The scale of a column. -/
def scale1 (g a b : EReal) : EReal := g * Ideal.rsqrt (Ideal.div b (Ideal.ofBits .f32 0x461C4000#32)
  - Ideal.div a (Ideal.ofBits .f32 0x461C4000#32) * Ideal.div a (Ideal.ofBits .f32 0x461C4000#32) + Ideal.ofBits .f32 0x3727C5AC#32)

theorem scale_apply (g a b : FVec Ideal S256 .f32) (l : Fin 256) : scaleOf g a b (ix1 l) = scale1 (g (ix1 l)) (a (ix1 l)) (b (ix1 l)) := by
  pointwise [scaleOf, overN, scale1]

theorem shift_apply (g h a b : FVec Ideal S256 .f32) (l : Fin 256) : shiftOf g h a b (ix1 l)
    = h (ix1 l) - Ideal.div (a (ix1 l)) (Ideal.ofBits .f32 0x461C4000#32) * scale1 (g (ix1 l)) (a (ix1 l)) (b (ix1 l)) := by
  rw [← scale_apply]
  unfold shiftOf
  generalize scaleOf g a b = s
  pointwise [overN]

end KernelIdeal.Value

end Cert

end
-- ==== Proof.BNEq.lean ====
module

public import proofs.«01_k».proof.Proof.BN

@[expose] public section

set_option maxRecDepth 16384

/-! The kernel's two normalised tables are the reference's. -/

noncomputable section

namespace Cert

open Idealize.ShloMosaic Idealize.ShloMosaic.TcCoe Idealize.SL.Sem Idealize.ShloMosaic.StableHlo

/-- The normalisation from the sums of the values and of the squares. -/
def fastOf (h : Fin 10000 → EReal) (g b : EReal) (p : Fin 10000) : EReal :=
  h p * Cert.KernelIdeal.Value.scale1 g (∑ q, h q) (∑ q, h q * h q)
    + (b - Ideal.div (∑ q, h q) (Ideal.ofBits .f32 0x461C4000#32) * Cert.KernelIdeal.Value.scale1 g (∑ q, h q) (∑ q, h q * h q))

/-- The two normalisations agree on real values and a real scale; the shift may be anything. -/
theorem fast_eq_norm (h : Fin 10000 → EReal) (hh : ∀ q, ∃ r : ℝ, h q = (r : EReal)) (g b : EReal) (hg : ∃ r : ℝ, g = (r : EReal))
    (p : Fin 10000) : fastOf h g b p = normOf h g b p := by
  choose f hf using hh
  obtain ⟨g, rfl⟩ := hg
  have h0 : fastOf h (g : EReal) ((0 : ℝ) : EReal) p = normOf h (g : EReal) ((0 : ℝ) : EReal) p := Cert.BN.norm_eq f g 0 p h hf
  have e1 : fastOf h (g : EReal) b p = fastOf h (g : EReal) ((0 : ℝ) : EReal) p + b := by
    unfold fastOf
    rw [sub_eq_add_neg, sub_eq_add_neg, EReal.coe_zero, zero_add, add_left_comm, add_comm]
  have e2 : normOf h (g : EReal) b p = normOf h (g : EReal) ((0 : ℝ) : EReal) p + b := by
    unfold normOf
    rw [EReal.coe_zero, add_zero]
  rw [e1, e2, h0]

theorem lin_real (x : FVec Ideal ⟨2, ![10000, 256]⟩ .f32) (w : FVec Ideal ⟨2, ![256, 256]⟩ .f32)
    (hx : ∀ p k, ∃ r : ℝ, x (ix2 p k) = (r : EReal)) (hw : ∀ l k, ∃ r : ℝ, w (ix2 l k) = (r : EReal)) (p : Fin 10000) (l : Fin 256) :
    ∃ r : ℝ, linOf x w p l = (r : EReal) := by
  choose f hf using hx
  choose u hu using hw
  refine ⟨∑ k, f p k * u l k, ?_⟩
  rw [← Cert.BN.sum_coe]
  unfold linOf
  refine Finset.sum_congr rfl fun k _ => ?_
  rw [hf, hu, EReal.coe_mul]

namespace KernelIdeal.Value

open Cert.KernelIdeal Cert.KernelIdeal.Gen

variable (m : (ℓ : Loc nD τ sig) → Buf (Elt Ideal) ℓ) (ρ : Dev nD → PrngReg) (c : Dev nD)

theorem W2_u : W2 m ρ c (Proc.devRef .tc main_v2_0) = mmOf (m ((c : Thread nD τ).loc main_arg0)) (transpose S256x256 [1, 0] (m ((c : Thread nD τ).loc main_arg4)) transposes_S256x256_S256x256_1_0) :=
  ((W2_arr m ρ c 4).trans (arr0_4 _ c)).trans (congrArg₂ mmOf (W1_args m ρ c main_arg0 (by decide)) (W1_v0 m ρ c))

theorem W2_p : W2 m ρ c (Proc.devRef .tc main_v2_1) = mmOf (m ((c : Thread nD τ).loc main_arg1)) (transpose S256x256 [1, 0] (m ((c : Thread nD τ).loc main_arg7)) transposes_S256x256_S256x256_1_0) :=
  ((W2_arr m ρ c 5).trans (arr0_5 _ c)).trans (congrArg₂ mmOf (W1_args m ρ c main_arg1 (by decide)) (W1_v1 m ρ c))

theorem W2_s : W2 m ρ c (Proc.devRef .tc main_v2_2) = statsOf
    (mmOf (m ((c : Thread nD τ).loc main_arg0)) (transpose S256x256 [1, 0] (m ((c : Thread nD τ).loc main_arg4)) transposes_S256x256_S256x256_1_0))
    (mmOf (m ((c : Thread nD τ).loc main_arg1)) (transpose S256x256 [1, 0] (m ((c : Thread nD τ).loc main_arg7)) transposes_S256x256_S256x256_1_0)) :=
  ((W2_arr m ρ c 6).trans (arr0_6 _ c)).trans (congrArg₂ statsOf
    (congrArg₂ mmOf (W1_args m ρ c main_arg0 (by decide)) (W1_v0 m ρ c)) (congrArg₂ mmOf (W1_args m ρ c main_arg1 (by decide)) (W1_v1 m ρ c)))

theorem W6_xu : W6 m ρ c (Proc.devRef .tc main_v40_0) = affOf (W2 m ρ c (Proc.devRef .tc main_v2_0)) (W3 m ρ c (Proc.devRef .tc main_v39)) 0 1 := by
  rw [W6_of m ρ c main_v40_0 (by decide), W5_of m ρ c main_v40_0 (by decide), ← W3_of m ρ c main_v2_0 (by decide)]
  exact (W4_arr m ρ c 3).trans (arr1_3 _ c)

theorem W6_yp : W6 m ρ c (Proc.devRef .tc main_v40_1) = leakyOf (affOf (W2 m ρ c (Proc.devRef .tc main_v2_1)) (W3 m ρ c (Proc.devRef .tc main_v39)) 2 3) := by
  rw [W6_of m ρ c main_v40_1 (by decide), W5_of m ρ c main_v40_1 (by decide), ← W3_of m ρ c main_v2_1 (by decide)]
  exact (W4_arr m ρ c 4).trans (arr1_4 _ c)

theorem aff_u (p : Fin 10000) (l : Fin 256) : affOf (W2 m ρ c (Proc.devRef .tc main_v2_0)) (W3 m ρ c (Proc.devRef .tc main_v39)) 0 1 (ix2 p l)
    = fastOf (fun q => linOf (m ((c : Thread nD τ).loc main_arg0)) (m ((c : Thread nD τ).loc main_arg4)) q l)
        (m ((c : Thread nD τ).loc main_arg5) (ix1 l)) (m ((c : Thread nD τ).loc main_arg6) (ix1 l)) p := by
  have h := coef_apply _ _ _ _ l _ (W3_v39 m ρ c)
  rw [W2_args m ρ c main_arg5 (by decide), W2_args m ρ c main_arg6 (by decide), W2_s] at h
  have e0 : W3 m ρ c (Proc.devRef .tc main_v39) (ix2 0 l) = _ := h.1
  have e1 : W3 m ρ c (Proc.devRef .tc main_v39) (ix2 1 l) = _ := h.2.1
  rw [scale_apply, sum0_apply, sum1_apply] at e0
  rw [shift_apply, sum0_apply, sum1_apply] at e1
  rw [W2_u]
  show mmOf _ _ (ix2 p l) * W3 m ρ c (Proc.devRef .tc main_v39) (ix2 0 l) + W3 m ρ c (Proc.devRef .tc main_v39) (ix2 1 l) = _
  rw [e0, e1, mmOf_apply]
  have s0 : ∀ b, statsOf (mmOf (m ((c : Thread nD τ).loc main_arg0)) (transpose S256x256 [1, 0] (m ((c : Thread nD τ).loc main_arg4)) transposes_S256x256_S256x256_1_0)) b (ix2 0 l)
      = ∑ q, linOf (m ((c : Thread nD τ).loc main_arg0)) (m ((c : Thread nD τ).loc main_arg4)) q l :=
    fun b => Finset.sum_congr rfl fun q _ => mmOf_apply _ _ q l
  have s1 : ∀ b, statsOf (mmOf (m ((c : Thread nD τ).loc main_arg0)) (transpose S256x256 [1, 0] (m ((c : Thread nD τ).loc main_arg4)) transposes_S256x256_S256x256_1_0)) b (ix2 1 l)
      = ∑ q, linOf (m ((c : Thread nD τ).loc main_arg0)) (m ((c : Thread nD τ).loc main_arg4)) q l * linOf (m ((c : Thread nD τ).loc main_arg0)) (m ((c : Thread nD τ).loc main_arg4)) q l :=
    fun b => Finset.sum_congr rfl fun q _ => congrArg₂ (· * ·) (mmOf_apply _ _ q l) (mmOf_apply _ _ q l)
  rw [s0, s1]
  rfl

theorem aff_p (p : Fin 10000) (l : Fin 256) : affOf (W2 m ρ c (Proc.devRef .tc main_v2_1)) (W3 m ρ c (Proc.devRef .tc main_v39)) 2 3 (ix2 p l)
    = fastOf (fun q => linOf (m ((c : Thread nD τ).loc main_arg1)) (m ((c : Thread nD τ).loc main_arg7)) q l)
        (m ((c : Thread nD τ).loc main_arg8) (ix1 l)) (m ((c : Thread nD τ).loc main_arg9) (ix1 l)) p := by
  have h := coef_apply _ _ _ _ l _ (W3_v39 m ρ c)
  rw [W2_args m ρ c main_arg8 (by decide), W2_args m ρ c main_arg9 (by decide), W2_s] at h
  have e0 : W3 m ρ c (Proc.devRef .tc main_v39) (ix2 2 l) = _ := h.2.2.1
  have e1 : W3 m ρ c (Proc.devRef .tc main_v39) (ix2 3 l) = _ := h.2.2.2
  rw [scale_apply, sum2_apply, sum3_apply] at e0
  rw [shift_apply, sum2_apply, sum3_apply] at e1
  rw [W2_p]
  show mmOf _ _ (ix2 p l) * W3 m ρ c (Proc.devRef .tc main_v39) (ix2 2 l) + W3 m ρ c (Proc.devRef .tc main_v39) (ix2 3 l) = _
  rw [e0, e1, mmOf_apply]
  have s0 : ∀ b, statsOf b (mmOf (m ((c : Thread nD τ).loc main_arg1)) (transpose S256x256 [1, 0] (m ((c : Thread nD τ).loc main_arg7)) transposes_S256x256_S256x256_1_0)) (ix2 2 l)
      = ∑ q, linOf (m ((c : Thread nD τ).loc main_arg1)) (m ((c : Thread nD τ).loc main_arg7)) q l :=
    fun b => Finset.sum_congr rfl fun q _ => mmOf_apply _ _ q l
  have s1 : ∀ b, statsOf b (mmOf (m ((c : Thread nD τ).loc main_arg1)) (transpose S256x256 [1, 0] (m ((c : Thread nD τ).loc main_arg7)) transposes_S256x256_S256x256_1_0)) (ix2 3 l)
      = ∑ q, linOf (m ((c : Thread nD τ).loc main_arg1)) (m ((c : Thread nD τ).loc main_arg7)) q l * linOf (m ((c : Thread nD τ).loc main_arg1)) (m ((c : Thread nD τ).loc main_arg7)) q l :=
    fun b => Finset.sum_congr rfl fun q _ => congrArg₂ (· * ·) (mmOf_apply _ _ q l) (mmOf_apply _ _ q l)
  rw [s0, s1]
  rfl

open Cert.ReferenceIdeal.Value (normVec linVec normVec_apply linVec_apply)

/-- The first table. -/
theorem xu_eq (hx : ∀ p k, ∃ r : ℝ, m ((c : Thread nD τ).loc main_arg0) (ix2 p k) = (r : EReal)) (hw : ∀ l k, ∃ r : ℝ, m ((c : Thread nD τ).loc main_arg4) (ix2 l k) = (r : EReal))
    (hg : ∀ l, ∃ r : ℝ, m ((c : Thread nD τ).loc main_arg5) (ix1 l) = (r : EReal)) :
    W6 m ρ c (Proc.devRef .tc main_v40_0) = normVec (linVec (m ((c : Thread nD τ).loc main_arg0)) (m ((c : Thread nD τ).loc main_arg4)))
      (m ((c : Thread nD τ).loc main_arg5)) (m ((c : Thread nD τ).loc main_arg6)) := by
  rw [W6_xu]
  funext j
  obtain ⟨p, l, rfl⟩ : ∃ (p : Fin 10000) (l : Fin 256), j = ix2 p l := ⟨j 0, j 1, eq_ix2 j⟩
  rw [aff_u, normVec_apply, fast_eq_norm _ (fun q => lin_real _ _ hx hw q l) _ _ (hg l)]
  refine congrArg (fun h => normOf h _ _ p) (funext fun q => (linVec_apply _ _ q l).symm)

/-- The second table. -/
theorem yp_eq (hx : ∀ p k, ∃ r : ℝ, m ((c : Thread nD τ).loc main_arg1) (ix2 p k) = (r : EReal)) (hw : ∀ l k, ∃ r : ℝ, m ((c : Thread nD τ).loc main_arg7) (ix2 l k) = (r : EReal))
    (hg : ∀ l, ∃ r : ℝ, m ((c : Thread nD τ).loc main_arg8) (ix1 l) = (r : EReal)) :
    W6 m ρ c (Proc.devRef .tc main_v40_1) = leakyOf (normVec (linVec (m ((c : Thread nD τ).loc main_arg1)) (m ((c : Thread nD τ).loc main_arg7)))
      (m ((c : Thread nD τ).loc main_arg8)) (m ((c : Thread nD τ).loc main_arg9))) := by
  rw [W6_yp]
  refine congrArg leakyOf ?_
  funext j
  obtain ⟨p, l, rfl⟩ : ∃ (p : Fin 10000) (l : Fin 256), j = ix2 p l := ⟨j 0, j 1, eq_ix2 j⟩
  rw [aff_p, normVec_apply, fast_eq_norm _ (fun q => lin_real _ _ hx hw q l) _ _ (hg l)]
  refine congrArg (fun h => normOf h _ _ p) (funext fun q => (linVec_apply _ _ q l).symm)

end KernelIdeal.Value

end Cert

end
-- ==== Proof.Inv.lean ====
module

public import proofs.«01_k».proof.Proof.RTail
public import proofs.«01_k».proof.Proof.Lits
public import Idealize.ShloMosaic.Lib.DynamicIndex

@[expose] public section

set_option maxRecDepth 16384

/-! The elimination on twice the identity: after `k` trips the first `k` rows are done, and the second table ends as half the identity. -/

noncomputable section

namespace Cert.ReferenceIdeal.Value

open Idealize.ShloMosaic Idealize.ShloMosaic.TcCoe Idealize.ShloMosaic.StableHlo Idealize.SL.Sem
open Cert.ReferenceIdeal Cert.ReferenceIdeal.Gen

/-- A diagonal matrix. -/
def diagOf (d : Fin 256 → EReal) : FVec Ideal S256x256 .f32 := fun j => if (j 0).val = (j 1).val then d (j 0) else 0

theorem diagOf_apply (d : Fin 256 → EReal) (i j : Fin 256) : diagOf d (ix2 i j) = if i = j then d i else 0 := by
  show (if i.val = j.val then d i else 0) = _
  by_cases h : i = j
  · rw [if_pos h, if_pos (congrArg Fin.val h)]
  · rw [if_neg h, if_neg fun e => h (Fin.ext e)]

/-- The first table's diagonal after `k` trips. -/
def firstAt (k : ℕ) (i : Fin 256) : EReal := if i.val < k then ((1 : ℝ) : EReal) else ((2 : ℝ) : EReal)
/-- The second table's. -/
def secondAt (k : ℕ) (i : Fin 256) : EReal := if i.val < k then ((1 / 2 : ℝ) : EReal) else ((1 : ℝ) : EReal)

theorem row_slice (x : FVec Ideal S256x256 .f32) (k : Fin 256) (st : Fin 2 → Int) (h0 : st 0 = (k.val : Int)) (h1 : st 1 = 0) (z : Fin 1) (j : Fin 256) :
    Host.dynamicSlice S1x256 (s := S256x256) x st sliceFits_S256x256_S1x256 (ix2 z j) = x (ix2 k j) := by
  have hz : z = 0 := Subsingleton.elim _ _
  have hs : S256x256.Slices ![k.val, 0] S1x256 := ⟨rfl, fun a => by
    match a with
    | ⟨0, _⟩ => exact k.isLt
    | ⟨1, _⟩ => exact le_refl 256⟩
  rw [Host.dynamicSlice_eq_extractStridedSlice S1x256 (s := S256x256) x st ![k.val, 0] sliceFits_S256x256_S1x256 hs (fun a => by
    match a with
    | ⟨0, _⟩ => exact h0
    | ⟨1, _⟩ => exact h1)]
  subst hz
  refine congrArg x (funext fun a => Fin.ext ?_)
  match a with
  | ⟨0, _⟩ => rfl
  | ⟨1, _⟩ => exact Nat.zero_add _

theorem col_slice (x : FVec Ideal S256x256 .f32) (k : Fin 256) (st : Fin 2 → Int) (h0 : st 0 = 0) (h1 : st 1 = (k.val : Int)) (i : Fin 256) (z : Fin 1) :
    Host.dynamicSlice S256x1 (s := S256x256) x st sliceFits_S256x256_S256x1 (ix2 i z) = x (ix2 i k) := by
  have hz : z = 0 := Subsingleton.elim _ _
  have hs : S256x256.Slices ![0, k.val] S256x1 := ⟨rfl, fun a => by
    match a with
    | ⟨0, _⟩ => exact le_refl 256
    | ⟨1, _⟩ => exact k.isLt⟩
  rw [Host.dynamicSlice_eq_extractStridedSlice S256x1 (s := S256x256) x st ![0, k.val] sliceFits_S256x256_S256x1 hs (fun a => by
    match a with
    | ⟨0, _⟩ => exact h0
    | ⟨1, _⟩ => exact h1)]
  subst hz
  refine congrArg x (funext fun a => Fin.ext ?_)
  match a with
  | ⟨0, _⟩ => exact Nat.zero_add _
  | ⟨1, _⟩ => rfl

theorem pivot_slice (x : FVec Ideal S256x256 .f32) (k : Fin 256) (st : Fin 2 → Int) (h0 : st 0 = (k.val : Int)) (h1 : st 1 = (k.val : Int)) (y z : Fin 1) :
    Host.dynamicSlice S1x1 (s := S256x256) x st sliceFits_S256x256_S1x1 (ix2 y z) = x (ix2 k k) := by
  have hy : y = 0 := Subsingleton.elim _ _
  have hz : z = 0 := Subsingleton.elim _ _
  have hs : S256x256.Slices ![k.val, k.val] S1x1 := ⟨rfl, fun a => by
    match a with
    | ⟨0, _⟩ => exact k.isLt
    | ⟨1, _⟩ => exact k.isLt⟩
  rw [Host.dynamicSlice_eq_extractStridedSlice S1x1 (s := S256x256) x st ![k.val, k.val] sliceFits_S256x256_S1x1 hs (fun a => by
    match a with
    | ⟨0, _⟩ => exact h0
    | ⟨1, _⟩ => exact h1)]
  subst hy hz
  refine congrArg x (funext fun a => Fin.ext ?_)
  match a with
  | ⟨0, _⟩ => rfl
  | ⟨1, _⟩ => rfl

section Trip

variable (V : Valuation τ sig (Elt Ideal)) (k : Fin 256)
  (h0 : V (Proc.devRef .tc main_v135_0) = iotaInDim S256x1 32 0)
  (h2 : V (Proc.devRef .tc main_v135_2) = constantI S_ 32 (BitVec.ofNat 32 k.val))
  (h3 : V (Proc.devRef .tc main_v135_3) = diagOf (firstAt k.val))
  (h4 : V (Proc.devRef .tc main_v135_4) = diagOf (secondAt k.val))

include h2 h3 in
theorem pivot_apply (y z : Fin 1) : res_main_while0b_v174 V (ix2 y z) = ((2 : ℝ) : EReal) := by
  unfold res_main_while0b_v174
  rw [h2, h3]
  refine (pivot_slice _ k _ (toInt_wrap_ofNat k.val (by omega)) (toInt_wrap_ofNat k.val (by omega)) y z).trans ?_
  rw [diagOf_apply, if_pos rfl]
  unfold firstAt
  rw [if_neg (lt_irrefl _)]

include h2 h3 in
theorem factor_apply (i : Fin 256) (z : Fin 1) : res_main_while0b_v179 V (ix2 i z) = if i = k then ((2 : ℝ) : EReal) else 0 := by
  unfold res_main_while0b_v179
  rw [h2, h3]
  refine (col_slice _ k _ rfl (toInt_wrap_ofNat k.val (by omega)) i z).trans ?_
  rw [diagOf_apply]
  by_cases h : i = k
  · rw [if_pos h, if_pos h, h]
    unfold firstAt
    rw [if_neg (lt_irrefl _)]
  · rw [if_neg h, if_neg h]

theorem div_row (x : FVec Ideal S1x256 .f32) (p : FVec Ideal S1x1 .f32) (z : Fin 1) (j : Fin 256) :
    Host.divf x (broadcastInDim S1x256 ![0, 1] bcast_S1x1_S1x256_0_1 p) (ix2 z j) = Ideal.div (x (ix2 z j)) (p (ix2 0 0)) := by
  pointwise

theorem div_two (r : ℝ) : Ideal.div (r : EReal) ((2 : ℝ) : EReal) = ((r / 2 : ℝ) : EReal) := by
  rw [Ideal.div_coe (by norm_num), ← EReal.coe_mul]
  congr 1
  ring

include h2 h3 in
theorem first_row (z : Fin 1) (j : Fin 256) : res_main_while0b_v181 V (ix2 z j) = if k = j then ((1 : ℝ) : EReal) else 0 := by
  unfold res_main_while0b_v181
  refine (div_row _ _ z j).trans ?_
  rw [pivot_apply V k h2 h3]
  rw [h2, h3]
  rw [row_slice _ k _ (toInt_wrap_ofNat k.val (by omega)) rfl z j, diagOf_apply]
  by_cases h : k = j
  · rw [if_pos h, if_pos h]
    unfold firstAt
    rw [if_neg (lt_irrefl _), div_two]
    norm_num
  · rw [if_neg h, if_neg h, ← EReal.coe_zero, div_two]
    norm_num

include h2 h3 h4 in
theorem second_row (z : Fin 1) (j : Fin 256) : res_main_while0b_v183 V (ix2 z j) = if k = j then ((1 / 2 : ℝ) : EReal) else 0 := by
  unfold res_main_while0b_v183
  refine (div_row _ _ z j).trans ?_
  rw [pivot_apply V k h2 h3]
  rw [h2, h4]
  rw [row_slice _ k _ (toInt_wrap_ofNat k.val (by omega)) rfl z j, diagOf_apply]
  by_cases h : k = j
  · rw [if_pos h, if_pos h]
    unfold secondAt
    rw [if_neg (lt_irrefl _), div_two]
  · rw [if_neg h, if_neg h, ← EReal.coe_zero, div_two]
    norm_num

theorem mix_apply (a : FVec Ideal S256x256 .f32) (r : FVec Ideal S1x256 .f32) (f : FVec Ideal S256x1 .f32) (k i j : Fin 256) :
    select (broadcastInDim S256x256 ![0, 1] bcast_S256x1_S256x256_0_1 (cmpi .eq (iotaInDim S256x1 32 0) (broadcastInDim S256x1 ![] bcast_S_S256x1 (id (constantI S_ 32 (BitVec.ofNat 32 k.val))))))
      (broadcastInDim S256x256 ![0, 1] bcast_S1x256_S256x256_0_1 r)
      (subf a (mulf (broadcastInDim S256x256 ![0, 1] bcast_S256x1_S256x256_0_1 f) (broadcastInDim S256x256 ![0, 1] bcast_S1x256_S256x256_0_1 r))) (ix2 i j)
    = if i = k then r (ix2 0 j) else a (ix2 i j) - f (ix2 i 0) * r (ix2 0 j) := by
  have h : select (broadcastInDim S256x256 ![0, 1] bcast_S256x1_S256x256_0_1 (cmpi .eq (iotaInDim S256x1 32 0) (broadcastInDim S256x1 ![] bcast_S_S256x1 (constantI S_ 32 (BitVec.ofNat 32 k.val)))))
      (broadcastInDim S256x256 ![0, 1] bcast_S1x256_S256x256_0_1 r)
      (subf a (mulf (broadcastInDim S256x256 ![0, 1] bcast_S256x1_S256x256_0_1 f) (broadcastInDim S256x256 ![0, 1] bcast_S1x256_S256x256_0_1 r))) (ix2 i j)
    = Scalar.select (IntOp.cmpi .eq (BitVec.ofNat 32 i.val) (BitVec.ofNat 32 k.val)) (r (ix2 0 j)) (a (ix2 i j) - f (ix2 i 0) * r (ix2 0 j)) := by
    pointwise
  refine h.trans ?_
  by_cases e : i = k
  · rw [if_pos e, e]; simp [Scalar.select, IntOp.cmpi]
  · have hn : BitVec.ofNat 32 i.val ≠ BitVec.ofNat 32 k.val := by
      intro e'
      have := congrArg BitVec.toNat e'
      simp only [BitVec.toNat_ofNat] at this
      exact e (Fin.ext (by omega))
    rw [if_neg e]; simp [Scalar.select, IntOp.cmpi, beq_eq_false_iff_ne.mpr hn]

include h0 h2 h3 in
theorem step_first : step_main_v135_3 V = diagOf (firstAt (k.val + 1)) := by
  funext x
  obtain ⟨i, j, rfl⟩ : ∃ (i j : Fin 256), x = ix2 i j := ⟨x 0, x 1, eq_ix2 x⟩
  have hr := first_row V k h2 h3
  have hf := factor_apply V k h2 h3
  unfold step_main_v135_3
  generalize res_main_while0b_v181 V = r at hr ⊢
  generalize res_main_while0b_v179 V = f at hf ⊢
  rw [h0, h2, h3]
  refine (mix_apply _ r f k i j).trans ?_
  rw [hr, hf, diagOf_apply, diagOf_apply]
  unfold firstAt
  by_cases e : i = k
  · rw [if_pos e, e]
    by_cases e' : k = j
    · rw [if_pos e', if_pos e', if_pos (Nat.lt_succ_self _)]
    · rw [if_neg e', if_neg e']
  · rw [if_neg e, if_neg e, zero_mul, sub_zero]
    have : (i.val < k.val + 1) = (i.val < k.val) := by
      have : i.val ≠ k.val := fun h => e (Fin.ext h)
      exact propext (by omega)
    simp only [this]

include h0 h2 h3 h4 in
theorem step_second : step_main_v135_4 V = diagOf (secondAt (k.val + 1)) := by
  funext x
  obtain ⟨i, j, rfl⟩ : ∃ (i j : Fin 256), x = ix2 i j := ⟨x 0, x 1, eq_ix2 x⟩
  have hr := second_row V k h2 h3 h4
  have hf := factor_apply V k h2 h3
  unfold step_main_v135_4
  generalize res_main_while0b_v183 V = r at hr ⊢
  generalize res_main_while0b_v179 V = f at hf ⊢
  rw [h0, h2, h4]
  refine (mix_apply _ r f k i j).trans ?_
  rw [hr, hf, diagOf_apply, diagOf_apply]
  unfold secondAt
  by_cases e : i = k
  · rw [if_pos e, e]
    by_cases e' : k = j
    · rw [if_pos e', if_pos e', if_pos (Nat.lt_succ_self _)]
    · rw [if_neg e', if_neg e']
  · rw [if_neg e, if_neg e, zero_mul, sub_zero]
    have : (i.val < k.val + 1) = (i.val < k.val) := by
      have : i.val ≠ k.val := fun h => e (Fin.ext h)
      exact propext (by omega)
    simp only [this]

end Trip

variable (m : (ℓ : Loc nD τ sig) → Buf (Elt Ideal) ℓ) (c : Dev nD)

theorem X13_0 : X13 m c (Proc.devRef .tc main_v135_0) = iotaInDim S256x1 32 0 := by
  show after hostOps0_12 (X12 m c) (Proc.devRef .tc main_v135_0) = _
  generalize X12 m c = V
  after_results; rfl

theorem X13_2 : X13 m c (Proc.devRef .tc main_v135_2) = constantI S_ 32 (BitVec.ofNat 32 0) := by
  show after hostOps0_12 (X12 m c) (Proc.devRef .tc main_v135_2) = _
  generalize X12 m c = V
  after_results; rfl

/-- The identity, as the first table's summand has it. -/
def eyeA : FVec Ideal S256x256 .f32 := uitofp .f32 (cmpi .eq (addi (iotaInDim S256x256 32 0) (broadcastInDim S256x256 ![] bcast_S_S256x256 (constantI S_ 32 0#32))) (iotaInDim S256x256 32 1))
/-- The identity, as the second table has it. -/
def eyeB : FVec Ideal S256x256 .f32 := uitofp .f32 (cmpi .eq (broadcastInDim S256x256 ![0, 1] bcast_S256x1_S256x256_0_1 (iotaInDim S256x1 32 0)) (broadcastInDim S256x256 ![0, 1] bcast_S1x256_S256x256_0_1 (iotaInDim S1x256 32 1)))
/-- The square of a matrix. -/
def gramOf (a : FVec Ideal S256x256 .f32) : FVec Ideal S256x256 .f32 :=
  Host.dotGeneral dot_S256x256_S256x256_S256x256_1_0_0_1_n_n none (transpose S256x256 [1, 0] a transposes_S256x256_S256x256_1_0) a

theorem X13_v121 : X13 m c (Proc.devRef .tc main_v121) = gramOf (X12 m c (Proc.devRef .tc main_arg10)) := by
  show after hostOps0_12 (X12 m c) (Proc.devRef .tc main_v121) = _
  generalize X12 m c = V
  after_results; rfl

theorem X13_3 : X13 m c (Proc.devRef .tc main_v135_3) = addf eyeA (gramOf (X12 m c (Proc.devRef .tc main_arg10))) := by
  show after hostOps0_12 (X12 m c) (Proc.devRef .tc main_v135_3) = _
  generalize X12 m c = V
  after_results; rfl

theorem X13_4 : X13 m c (Proc.devRef .tc main_v135_4) = eyeB := by
  show after hostOps0_12 (X12 m c) (Proc.devRef .tc main_v135_4) = _
  generalize X12 m c = V
  after_results; rfl

theorem bit_eq (i j : Fin 256) : FloatOps.uitofp (F := Ideal) .f32 (IntOp.cmpi .eq (BitVec.ofNat 32 i.val) (BitVec.ofNat 32 j.val)) = if i = j then ((1 : ℝ) : EReal) else 0 := by
  by_cases e : i = j
  · rw [if_pos e, e]
    have : IntOp.cmpi .eq (BitVec.ofNat 32 j.val) (BitVec.ofNat 32 j.val) = 1#1 := by simp [IntOp.cmpi]
    rw [this]
    show ((((1#1 : BitVec 1).toNat : ℝ)) : EReal) = _
    norm_num
  · have hn : BitVec.ofNat 32 i.val ≠ BitVec.ofNat 32 j.val := by
      intro e'
      have := congrArg BitVec.toNat e'
      simp only [BitVec.toNat_ofNat] at this
      exact e (Fin.ext (by omega))
    rw [if_neg e]
    have : IntOp.cmpi .eq (BitVec.ofNat 32 i.val) (BitVec.ofNat 32 j.val) = 0#1 := by simp [IntOp.cmpi, beq_eq_false_iff_ne.mpr hn]
    rw [this]
    show ((((0#1 : BitVec 1).toNat : ℝ)) : EReal) = _
    norm_num

theorem eyeB_eq : eyeB = diagOf (secondAt 0) := by
  funext x
  obtain ⟨i, j, rfl⟩ : ∃ (i j : Fin 256), x = ix2 i j := ⟨x 0, x 1, eq_ix2 x⟩
  have h : eyeB (ix2 i j) = FloatOps.uitofp (F := Ideal) .f32 (IntOp.cmpi .eq (BitVec.ofNat 32 i.val) (BitVec.ofNat 32 j.val)) := by
    unfold eyeB
    pointwise
  rw [h, bit_eq, diagOf_apply]
  unfold secondAt
  simp only [Nat.not_lt_zero, if_false]

theorem eyeA_apply (i j : Fin 256) : eyeA (ix2 i j) = if i = j then ((1 : ℝ) : EReal) else 0 := by
  have h : eyeA (ix2 i j) = FloatOps.uitofp (F := Ideal) .f32 (IntOp.cmpi .eq (BitVec.ofNat 32 i.val) (BitVec.ofNat 32 j.val)) := by
    unfold eyeA
    pointwise
    refine congrArg (fun b => FloatOps.uitofp (F := Ideal) .f32 (IntOp.cmpi .eq b (BitVec.ofNat 32 j.val))) ?_
    exact BitVec.add_zero _
  rw [h, bit_eq]

/-- The columns of the matrix are orthonormal. -/
def OrthoCols (a : FVec Ideal S256x256 .f32) : Prop :=
  ∀ i j : Fin 256, ∑ k : Fin 256, a (ix2 k i) * a (ix2 k j) = if i = j then ((1 : ℝ) : EReal) else 0

/-- An entry of the product of the transpose with the matrix. -/
theorem gram_apply (a : FVec Ideal S256x256 .f32) (i j : Fin 256) : gramOf a (ix2 i j) = ∑ k : Fin 256, a (ix2 k i) * a (ix2 k j) := by
  unfold gramOf
  pointwise

theorem first_entry (a : FVec Ideal S256x256 .f32) (ha : ∀ i j : Fin 256, gramOf a (ix2 i j) = if i = j then ((1 : ℝ) : EReal) else 0) :
    addf eyeA (gramOf a) = diagOf (firstAt 0) := by
  funext x
  obtain ⟨i, j, rfl⟩ : ∃ (i j : Fin 256), x = ix2 i j := ⟨x 0, x 1, eq_ix2 x⟩
  show eyeA (ix2 i j) + gramOf a (ix2 i j) = _
  rw [eyeA_apply, ha, diagOf_apply]
  unfold firstAt
  simp only [Nat.not_lt_zero, if_false]
  by_cases e : i = j
  · rw [if_pos e, if_pos e, ← EReal.coe_add]; norm_num
  · rw [if_neg e, if_neg e, add_zero]

/-- What the loop carries before its `k`-th condition. -/
theorem carried (ha : ∀ i j : Fin 256, gramOf (X12 m c (Proc.devRef .tc main_arg10)) (ix2 i j) = if i = j then ((1 : ℝ) : EReal) else 0) : ∀ k : ℕ, k ≤ 256 →
    atK m k c (Proc.devRef .tc main_v135_0) = iotaInDim S256x1 32 0
    ∧ atK m k c (Proc.devRef .tc main_v135_2) = constantI S_ 32 (BitVec.ofNat 32 k)
    ∧ atK m k c (Proc.devRef .tc main_v135_3) = diagOf (firstAt k)
    ∧ atK m k c (Proc.devRef .tc main_v135_4) = diagOf (secondAt k)
  | 0, _ => ⟨X13_0 m c, X13_2 m c, (X13_3 m c).trans (first_entry _ ha), (X13_4 m c).trans eyeB_eq⟩
  | k + 1, hk => by
    obtain ⟨h0, h2, h3, h4⟩ := carried ha k (by omega)
    have ag := trip_agree (atK m k c)
    have e3 := step_first (atK m k c) ⟨k, by omega⟩ h0 h2 h3
    have e4 := step_second (atK m k c) ⟨k, by omega⟩ h0 h2 h3 h4
    refine ⟨(ag main_v135_0 (by decide)).trans ((STEP_main_v135_0 _).trans h0),
      (ag main_v135_2 (by decide)).trans ((STEP_main_v135_2 _).trans ?_),
      (ag main_v135_3 (by decide)).trans ((STEP_main_v135_3 _).trans e3), (ag main_v135_4 (by decide)).trans ((STEP_main_v135_4 _).trans e4)⟩
    unfold step_main_v135_2
    rw [h2]
    funext x
    show BitVec.ofNat 32 k + 1#32 = BitVec.ofNat 32 (k + 1)
    exact (BitVec.ofNat_add k 1).symm

end Cert.ReferenceIdeal.Value

end
-- ==== Proof.TailEq.lean ====
module

public import proofs.«01_k».proof.Proof.KTail

@[expose] public section

set_option maxRecDepth 16384

/-! Two selections that agree where a neighbour is valid give the same weights and the same weighted sums. -/

noncomputable section

namespace Cert.KernelIdeal.Value

open Idealize.ShloMosaic Idealize.ShloMosaic.TcCoe Idealize.SL.Sem
open Cert.KernelIdeal Cert.KernelIdeal.Gen

/-- The named rows depend on the index of their own slot alone. -/
theorem take_congr (t : FVec Ideal S10000x256 .f32) {col col' : IVec S10000x16 32} (p : Fin 10000) (k : Fin 16) (l : Fin 256)
    (h : col (ix2 p k) = col' (ix2 p k)) : takeOf t col (ix3 p k l) = takeOf t col' (ix3 p k l) := by
  have hr : ∀ a : S10000x16x1.Idx, a 0 = p → a 1 = k → rowsOf col a = rowsOf col' a := by
    intro a h0 h1
    have ea : a = ix3 p k (a 2) := by rw [← h0, ← h1]; exact eq_ix3 a
    rw [ea]
    generalize a 2 = z
    pointwise [rowsOf]
    rw [h]
  unfold takeOf Host.gather
  congr 1
  funext a
  apply Fin.ext
  show _ + _ + _ = _ + _ + _
  congr 2
  unfold GatherDims.start
  split
  · rw [hr _ (Fin.ext rfl) (Fin.ext rfl)]
  · rfl

theorem select_zero {α : Type} (a b : α) : Scalar.select 0#1 a b = b := rfl

/-- The logits agree where the indices agree on the valid slots. -/
theorem logit_congr (yp : FVec Ideal S10000x256 .f32) {col col' : IVec S10000x16 32} {valid : IVec S10000x16 1}
    (h : ∀ p k, valid (ix2 p k) = 1#1 → col (ix2 p k) = col' (ix2 p k)) :
    logitOf (simOf yp col) valid = logitOf (simOf yp col') valid := by
  funext j
  obtain ⟨p, k, rfl⟩ : ∃ (p : Fin 10000) (k : Fin 16), j = ix2 p k := ⟨j 0, j 1, eq_ix2 j⟩
  have hd : valid (ix2 p k) = 1#1 → ∀ l, takeOf yp col (ix3 p k l) = takeOf yp col' (ix3 p k l) := fun hv l => take_congr yp p k l (h p k hv)
  pointwise [logitOf, simOf, diffOf]
  rcases (by decide : ∀ b : BitVec 1, b = 0#1 ∨ b = 1#1) (valid (ix2 p k)) with hv | hv
  · rw [hv, select_zero, select_zero]
  · refine congrArg (fun s => Scalar.select (valid (ix2 p k)) (-s) _) (Finset.sum_congr rfl fun l _ => ?_)
    rw [hd hv l]

/-- The weighted sums agree where the indices agree on the valid slots: the others have weight zero. -/
theorem agg_congr (xu : FVec Ideal S10000x256 .f32) {col col' : IVec S10000x16 32} {valid : IVec S10000x16 1} (e : FVec Ideal S10000x16 .f32)
    (h : ∀ p k, valid (ix2 p k) = 1#1 → col (ix2 p k) = col' (ix2 p k)) :
    aggOf xu col (weightOf (expOf e valid)) = aggOf xu col' (weightOf (expOf e valid)) := by
  funext j
  obtain ⟨p, l, rfl⟩ : ∃ (p : Fin 10000) (l : Fin 256), j = ix2 p l := ⟨j 0, j 1, eq_ix2 j⟩
  pointwise [aggOf, weightOf, denOf, sumOf, expOf]
  apply Finset.sum_congr rfl
  intro x _
  rcases (by decide : ∀ b : BitVec 1, b = 0#1 ∨ b = 1#1) (valid (ix2 p x)) with hv | hv
  · have h0 : ∀ d : EReal, d ≠ 0 → ∀ y z : EReal, Ideal.div 0 d * y = Ideal.div 0 d * z := by
      intro d hd y z
      have : Ideal.div 0 d = 0 := by
        unfold Ideal.div
        rw [if_neg hd, zero_mul]
      rw [this, zero_mul, zero_mul]
    have hs : ∀ y : EReal, Scalar.select (valid (ix2 p x)) y (0 : EReal) = 0 := fun y => by rw [hv, select_zero]
    rw [hs]
    apply h0
    split
    · exact ne_of_gt (by assumption)
    · exact one_ne_zero
  · rw [take_congr xu p x l (h p x hv)]

end Cert.KernelIdeal.Value

end
-- ==== Proof.Final.lean ====
module

public import proofs.«01_k».proof.Proof.SelEq
public import proofs.«01_k».proof.Proof.BNEq
public import proofs.«01_k».proof.Proof.Inv
public import proofs.«01_k».proof.Proof.TailEq

@[expose] public section

set_option maxRecDepth 16384

/-! The kernel's result and the reference's, put side by side. -/

noncomputable section

namespace Cert.ReferenceIdeal.Value

open Idealize.ShloMosaic Idealize.ShloMosaic.TcCoe Idealize.ShloMosaic.StableHlo Idealize.SL.Sem
open Cert.ReferenceIdeal Cert.ReferenceIdeal.Gen
open Cert.KernelIdeal.Value (leakyOf aggOf weights halfOf)

/-- A product with a diagonal matrix scales the columns. -/
theorem dot_diag (a : FVec Ideal S10000x256 .f32) (b : FVec Ideal S256x256 .f32) (d : Fin 256 → EReal)
    (hb : ∀ i j, b (ix2 i j) = if i = j then d i else 0) (p : Fin 10000) (l : Fin 256) :
    Host.dotGeneral dot_S10000x256_S256x256_S10000x256_1_0_0_1_n_n none a b (ix2 p l) = a (ix2 p l) * d l := by
  have h : Host.dotGeneral dot_S10000x256_S256x256_S10000x256_1_0_0_1_n_n none a b (ix2 p l) = ∑ k : Fin 256, a (ix2 p k) * b (ix2 k l) := by
    pointwise []
  rw [h, Finset.sum_eq_single l]
  · rw [hb, if_pos rfl]
  · intro k _ hk
    rw [hb, if_neg hk, mul_zero]
  · intro hn
    exact absurd (Finset.mem_univ l) hn

/-- Mixed with the identity and half of it: the half sum. -/
theorem mix_half (xu agg : FVec Ideal S10000x256 .f32) (M B : FVec Ideal S256x256 .f32)
    (hM : ∀ i j, M (ix2 i j) = if i = j then ((1 : ℝ) : EReal) else 0) (hB : ∀ i j, B (ix2 i j) = if i = j then ((1 / 2 : ℝ) : EReal) else 0) :
    mixOf xu agg M B = halfOf xu agg := by
  funext j
  obtain ⟨p, l, rfl⟩ : ∃ (p : Fin 10000) (l : Fin 256), j = ix2 p l := ⟨j 0, j 1, eq_ix2 j⟩
  unfold mixOf
  rw [dot_diag _ B (fun _ => ((1 / 2 : ℝ) : EReal)) hB p l]
  show (xu (ix2 p l) + Host.dotGeneral dot_S10000x256_S256x256_S10000x256_1_0_0_1_n_n none agg M (ix2 p l)) * ((1 / 2 : ℝ) : EReal)
    = Ideal.ofBits .f32 0x3F000000#32 * (xu (ix2 p l) + agg (ix2 p l))
  rw [dot_diag _ M (fun _ => ((1 : ℝ) : EReal)) hM p l, Cert.Lits.half_bits, EReal.coe_one, mul_one, mul_comm]

variable (m : (ℓ : Loc nD τ sig) → Buf (Elt Ideal) ℓ) (c : Dev nD)

/-- What the second stretch leaves of the launch contents. -/
theorem X2_arg (r : Ref sig .tc) (h1 : r ∉ hostOps0_W) (h2 : r ∉ hostOps0_1_W) : X2 m c (Proc.devRef .tc r) = X0 m c (Proc.devRef .tc r) :=
  (X2_of m c r h2).trans (X1_of m c r h1)

theorem X12_arg10 : X12 m c (Proc.devRef .tc main_arg10) = m ((c : Thread nD τ).loc main_arg10) := by
  rw [X12_of m c _ (by decide), X11_of m c _ (by decide), X10_of m c _ (by decide), X9_of m c _ (by decide), X8_of m c _ (by decide),
    X7_of m c _ (by decide), X6_of m c _ (by decide), X5_of m c _ (by decide), X4_of m c _ (by decide), X3_of m c _ (by decide),
    X2_arg m c _ (by decide) (by decide)]

theorem X4_xu : X4 m c (Proc.devRef .tc main_v56) = normVec (linVec (m ((c : Thread nD τ).loc main_arg0)) (m ((c : Thread nD τ).loc main_arg4)))
    (m ((c : Thread nD τ).loc main_arg5)) (m ((c : Thread nD τ).loc main_arg6)) := by
  rw [X4_of m c _ (by decide), X3_v56, X2_arg m c main_arg0 (by decide) (by decide), X2_arg m c main_arg4 (by decide) (by decide),
    X2_arg m c main_arg5 (by decide) (by decide), X2_arg m c main_arg6 (by decide) (by decide)]

theorem X4_yp : X4 m c (Proc.devRef .tc main_v88) = leakyOf (normVec (linVec (m ((c : Thread nD τ).loc main_arg1)) (m ((c : Thread nD τ).loc main_arg7)))
    (m ((c : Thread nD τ).loc main_arg8)) (m ((c : Thread nD τ).loc main_arg9))) := by
  rw [X4_v88, X2_arg m c main_arg1 (by decide) (by decide), X2_arg m c main_arg7 (by decide) (by decide),
    X2_arg m c main_arg8 (by decide) (by decide), X2_arg m c main_arg9 (by decide) (by decide)]

/-- The reference's result where the last argument's columns are orthonormal. -/
theorem result_half (he : OrthoCols (m ((c : Thread nD τ).loc main_arg10))) :
    X15 m c (Proc.devRef .tc main_v154) = leakyOf (halfOf (X4 m c (Proc.devRef .tc main_v56))
      (aggOf (X4 m c (Proc.devRef .tc main_v56)) (X3 m c (Proc.devRef .tc main_indices))
        (weights (X4 m c (Proc.devRef .tc main_v88)) (X3 m c (Proc.devRef .tc main_indices)) (X3 m c (Proc.devRef .tc main_v29))))) := by
  have ha : ∀ i j : Fin 256, gramOf (X12 m c (Proc.devRef .tc main_arg10)) (ix2 i j) = if i = j then ((1 : ℝ) : EReal) else 0 := by
    intro i j
    rw [X12_arg10, gram_apply]
    exact he i j
  rw [result_eq, X4_of m c main_indices (by decide), X4_of m c main_v29 (by decide)]
  refine congrArg leakyOf (mix_half _ _ _ _ ?_ ?_)
  · intro i j
    rw [X13_v121]
    exact ha i j
  · intro i j
    have h := (carried m c ha 256 le_rfl)
    rw [h.2.2.2, diagOf_apply]
    unfold secondAt
    rw [if_pos i.isLt]

end Cert.ReferenceIdeal.Value

namespace Cert.KernelIdeal.Value

open Idealize.ShloMosaic Idealize.ShloMosaic.TcCoe Idealize.ShloMosaic.StableHlo Idealize.SL.Sem
open Cert.KernelIdeal Cert.KernelIdeal.Gen
open Cert.ReferenceIdeal.Value (X3 X4 X15 normVec linVec OrthoCols)

/-- The tail of the computation does not see the indices of the slots that are not valid. -/
theorem tail_eq (xu yp : FVec Ideal S10000x256 .f32) (col col' : IVec S10000x16 32) (valid : IVec S10000x16 1)
    (h : ∀ p k, valid (ix2 p k) = 1#1 → col (ix2 p k) = col' (ix2 p k)) :
    aggOf xu col (weights yp col valid) = aggOf xu col' (weights yp col' valid) := by
  unfold weights
  rw [logit_congr yp h]
  exact agg_congr xu _ h

variable (m : (ℓ : Loc nD τ sig) → Buf (Elt Ideal) ℓ) (ρ : Dev nD → PrngReg) (c : Dev nD)
variable (m' : (ℓ : Loc Cert.ReferenceIdeal.nD Cert.ReferenceIdeal.τ Cert.ReferenceIdeal.sig) → Buf (Elt Ideal) ℓ)

/-- The two results are equal. -/
theorem final
    (h0 : m' ((c : Thread nD τ).loc Cert.ReferenceIdeal.main_arg0) = m ((c : Thread nD τ).loc main_arg0))
    (h1 : m' ((c : Thread nD τ).loc Cert.ReferenceIdeal.main_arg1) = m ((c : Thread nD τ).loc main_arg1))
    (h2 : m' ((c : Thread nD τ).loc Cert.ReferenceIdeal.main_arg2) = m ((c : Thread nD τ).loc main_arg2))
    (h3 : m' ((c : Thread nD τ).loc Cert.ReferenceIdeal.main_arg3) = m ((c : Thread nD τ).loc main_arg3))
    (h4 : m' ((c : Thread nD τ).loc Cert.ReferenceIdeal.main_arg4) = m ((c : Thread nD τ).loc main_arg4))
    (h5 : m' ((c : Thread nD τ).loc Cert.ReferenceIdeal.main_arg5) = m ((c : Thread nD τ).loc main_arg5))
    (h6 : m' ((c : Thread nD τ).loc Cert.ReferenceIdeal.main_arg6) = m ((c : Thread nD τ).loc main_arg6))
    (h7 : m' ((c : Thread nD τ).loc Cert.ReferenceIdeal.main_arg7) = m ((c : Thread nD τ).loc main_arg7))
    (h8 : m' ((c : Thread nD τ).loc Cert.ReferenceIdeal.main_arg8) = m ((c : Thread nD τ).loc main_arg8))
    (h9 : m' ((c : Thread nD τ).loc Cert.ReferenceIdeal.main_arg9) = m ((c : Thread nD τ).loc main_arg9))
    (h10 : m' ((c : Thread nD τ).loc Cert.ReferenceIdeal.main_arg10) = m ((c : Thread nD τ).loc main_arg10))
    (r0 : ∀ p k, ∃ r : ℝ, m ((c : Thread nD τ).loc main_arg0) (ix2 p k) = (r : EReal))
    (r1 : ∀ p k, ∃ r : ℝ, m ((c : Thread nD τ).loc main_arg1) (ix2 p k) = (r : EReal))
    (r4 : ∀ l k, ∃ r : ℝ, m ((c : Thread nD τ).loc main_arg4) (ix2 l k) = (r : EReal))
    (r7 : ∀ l k, ∃ r : ℝ, m ((c : Thread nD τ).loc main_arg7) (ix2 l k) = (r : EReal))
    (r5 : ∀ l, ∃ r : ℝ, m ((c : Thread nD τ).loc main_arg5) (ix1 l) = (r : EReal))
    (r8 : ∀ l, ∃ r : ℝ, m ((c : Thread nD τ).loc main_arg8) (ix1 l) = (r : EReal))
    (z3 : ∀ i : Fin 10000, m ((c : Thread nD τ).loc main_arg3) (ix1 i) = m ((c : Thread nD τ).loc main_arg3) (ix1 0))
    (e10 : OrthoCols (m ((c : Thread nD τ).loc main_arg10))) :
    X15 m' c (Proc.devRef .tc Cert.ReferenceIdeal.main_v154) = W16 m ρ c (Proc.devRef .tc main_v99) := by
  have hb : ∀ i j : Fin 10000, m' ((c : Thread nD τ).loc Cert.ReferenceIdeal.main_arg3) (ix1 i) = m' ((c : Thread nD τ).loc Cert.ReferenceIdeal.main_arg3) (ix1 j) := by
    intro i j
    rw [h3, z3 i, z3 j]
  have hs := sel_eq m ρ c m' h2 hb
  have hv : validOf (W6 m ρ c (Proc.devRef .tc main_v46_1)) = X3 m' c (Proc.devRef .tc Cert.ReferenceIdeal.main_v29) := by
    rw [W6_flag]
    funext j
    obtain ⟨p, k, rfl⟩ : ∃ (p : Fin 10000) (k : Fin 16), j = ix2 p k := ⟨j 0, j 1, eq_ix2 j⟩
    exact (hs p k).1
  have hu : X4 m' c (Proc.devRef .tc Cert.ReferenceIdeal.main_v56) = W6 m ρ c (Proc.devRef .tc main_v40_0) := by
    rw [Cert.ReferenceIdeal.Value.X4_xu, xu_eq m ρ c r0 r4 r5, ← h0, ← h4, ← h5, ← h6]
  have hy : X4 m' c (Proc.devRef .tc Cert.ReferenceIdeal.main_v88) = W6 m ρ c (Proc.devRef .tc main_v40_1) := by
    rw [Cert.ReferenceIdeal.Value.X4_yp, yp_eq m ρ c r1 r7 r8, ← h1, ← h7, ← h8, ← h9]
  have he : OrthoCols (m' ((c : Thread nD τ).loc Cert.ReferenceIdeal.main_arg10)) := by
    rw [h10]; exact e10
  rw [Cert.ReferenceIdeal.Value.result_half m' c he, hu, hy, result_eq, hv]
  refine Eq.symm (congrArg (fun a => leakyOf (halfOf (W6 m ρ c (Proc.devRef .tc main_v40_0)) a)) (tail_eq _ _ _ _ _ ?_))
  intro p k h
  rw [W6_col]
  exact (hs p k).2 h

end Cert.KernelIdeal.Value

end
-- ==== Proof.Domain.lean ====
module

public import proofs.«01_k».proof.Defs
public import proofs.«01_k».proof.Proof.Gen.Pre_domain
public import proofs.«01_k».proof.Proof.Lits
public import Idealize.ShloMosaic.Lib.ReduceAll
public import Idealize.ShloMosaic.Lib.Pointwise
public import Idealize.ShloMosaic.Lib.WordCmp
public import Idealize.ShloMosaic.Lib.Affine

@[expose] public section

set_option maxRecDepth 16384

/-! What the precondition says of the arguments, entry by entry. -/

noncomputable section

namespace Cert.Pre_domain.Value

open Idealize.ShloMosaic Idealize.ShloMosaic.TcCoe Idealize.ShloMosaic.StableHlo Idealize.SL.Sem
open Cert.Pre_domain Cert.Pre_domain.Gen

/-- A number whose absolute value is less than infinity is real. -/
theorem real_of_lt (x : Ideal .f32) (h : FloatOps.cmpf .olt (FloatOps.hostAbsf x) (FloatOps.ofBits (F := Ideal) .f32 0x7F800000#32) = 1#1) :
    ∃ r : ℝ, x = (r : EReal) := by
  have h' : Ideal.cmp .olt (max (x : EReal) (-(x : EReal))) (Ideal.ofBits .f32 0x7F800000#32) = 1#1 := h
  rw [Cert.Lits.top_bits] at h'
  unfold Ideal.cmp at h'
  have hl : max (x : EReal) (-(x : EReal)) < ⊤ := by
    by_contra hn
    simp [hn] at h'
  rw [max_lt_iff] at hl
  refine ⟨EReal.toReal x, (EReal.coe_toReal hl.1.ne ?_).symm⟩
  intro e
  exact hl.2.ne (by rw [e]; rfl)

/-- Two numbers that compare equal are equal. -/
theorem eq_of_oeq (x y : Ideal .f32) (h : FloatOps.cmpf .oeq x y = 1#1) : x = y := by
  have h' : Ideal.cmp .oeq (x : EReal) y = 1#1 := h
  unfold Ideal.cmp at h'
  by_contra hn
  simp [show ¬ ((x : EReal) = y) from hn] at h'

theorem one_bits : Ideal.ofBits .f32 0x3F800000#32 = ((1 : ℝ) : EReal) := by
  simp [Ideal.ofBits, Ideal.ieee, -EReal.coe_mul]
  norm_num

/-- The precondition, read. -/
theorem read (x y : FVec Ideal S10000x256 .f32) (pos : FVec Ideal S10000x3 .f32) (b : IVec S10000 32) (w : FVec Ideal S256x256 .f32)
    (g h : FVec Ideal S256 .f32) (w' : FVec Ideal S256x256 .f32) (g' h' : FVec Ideal S256 .f32) (e : FVec Ideal S256x256 .f32)
    (hp : fn (F := Ideal) x y pos b w g h w' g' h' e = fun _ => 1#1) :
    (∀ i, ∃ r : ℝ, x i = (r : EReal)) ∧ (∀ i, ∃ r : ℝ, y i = (r : EReal)) ∧ (∀ i, ∃ r : ℝ, w i = (r : EReal)) ∧ (∀ i, ∃ r : ℝ, w' i = (r : EReal))
    ∧ (∀ i, ∃ r : ℝ, g i = (r : EReal)) ∧ (∀ i, ∃ r : ℝ, g' i = (r : EReal))
    ∧ (∀ i, b (ix1 i) = b (ix1 0)) ∧ (∀ i j : Fin 256, ∑ k : Fin 256, e (ix2 k i) * e (ix2 k j) = if i = j then ((1 : ℝ) : EReal) else 0) := by
  have hp := congrFun hp (fun a => a.elim0)
  unfold fn fn_part1 fn_part2 at hp
  simp only [WordCmp.andi_at, IntOp.andi_eq_one] at hp
  obtain ⟨⟨⟨⟨⟨⟨⟨hx, hy⟩, hw⟩, hw'⟩, hg⟩, hg'⟩, hb⟩, he⟩ := hp
  refine ⟨fun i => real_of_lt _ (Host.reduce_andi_all _ _ _ _ _ hx i), fun i => real_of_lt _ (Host.reduce_andi_all _ _ _ _ _ hy i),
    fun i => real_of_lt _ (Host.reduce_andi_all _ _ _ _ _ hw i), fun i => real_of_lt _ (Host.reduce_andi_all _ _ _ _ _ hw' i),
    fun i => real_of_lt _ (Host.reduce_andi_all _ _ _ _ _ hg i), fun i => real_of_lt _ (Host.reduce_andi_all _ _ _ _ _ hg' i),
    fun i => (IntOp.cmpi_eq.1 (Host.reduce_andi_all _ _ _ _ _ hb (ix1 i))).trans ?_, fun i j => ?_⟩
  · pointwise
  have q := eq_of_oeq _ _ (Host.reduce_andi_all _ _ _ _ _ he (ix2 i j))
  have hd : Host.dotGeneral dot_S256x256_S256x256_S256x256_1_0_0_1_n_n none (transpose S256x256 [1, 0] e transposes_S256x256_S256x256_1_0) e (ix2 i j)
      = ∑ k : Fin 256, e (ix2 k i) * e (ix2 k j) := by
    pointwise
  rw [← hd, q]
  show Scalar.select (IntOp.cmpi .eq (BitVec.ofNat 32 i.val) (BitVec.ofNat 32 j.val)) (Ideal.ofBits .f32 0x3F800000#32) (Ideal.ofBits .f32 0x00000000#32) = _
  rw [one_bits, Ideal.ofBits_zero_f32]
  unfold Scalar.select
  by_cases hij : i = j
  · subst hij
    rw [if_pos rfl]
    exact if_pos (IntOp.cmpi_eq.2 rfl)
  · rw [if_neg hij]
    refine if_neg fun hc => ?_
    have := congrArg BitVec.toNat (IntOp.cmpi_eq.1 hc)
    rw [BitVec.toNat_ofNat, BitVec.toNat_ofNat, Nat.mod_eq_of_lt (by omega), Nat.mod_eq_of_lt (by omega)] at this
    exact hij (Fin.ext this)

end Cert.Pre_domain.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_domain
public import proofs.«01_k».proof.Proof.Gen.ReferenceIdeal.Run
public import proofs.«01_k».proof.Proof.Final
public import proofs.«01_k».proof.Proof.Domain
public import Idealize.ShloMosaic.Adequacy
public import Idealize.ShloMosaic.Init

@[expose] public section

noncomputable section

namespace Cert.Proof

open Idealize.ShloMosaic Idealize.SL.Sem Cert.Kernel

/-- The reference's run leaves its arguments and its counters as they were. -/
theorem ref_frame : Cert.quiescent_ReferenceIdeal := fun m ρ _ =>
  (Cert.ReferenceIdeal.Value.run_value m ρ).mono fun r h => ⟨fun c => (h.1 c).2, h.2⟩

/-- On arguments that agree and satisfy the precondition, the reference's result is the kernel's. -/
theorem value_eq (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (hp : Cert.Pre_KernelIdeal_domain m)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.ReferenceIdeal.Value.X15 m' c (Proc.devRef .tc Cert.ReferenceIdeal.main_v154)
      = Cert.KernelIdeal.Gen.W16 m g c (Proc.devRef .tc Cert.KernelIdeal.main_v99) := by
  obtain ⟨r0, r1, r4, r7, r5, r8, z3, e10⟩ := Cert.Pre_domain.Value.read _ _ _ _ _ _ _ _ _ _ _ (hp c)
  exact Cert.KernelIdeal.Value.final m g c m' h0 h1 h2 h3 h4 h5 h6 h7 h8 h9 h10
    (fun p k => r0 (ix2 p k)) (fun p k => r1 (ix2 p k)) (fun p k => r4 (ix2 p k)) (fun p k => r7 (ix2 p k))
    (fun l => r5 (ix1 l)) (fun l => r8 (ix1 l)) z3 e10

/-- The kernel and the reference leave one value. -/
theorem values : Cert.algebraic_KernelIdeal_ReferenceIdeal_pre_domain := by
  intro m g m' g' hp ha
  refine ⟨fun c => Cert.KernelIdeal.Gen.W16 m g c (Proc.devRef .tc Cert.KernelIdeal.main_v99), ?_, ?_⟩
  · exact (Cert.KernelIdeal.Value.run_value m g).mono fun r h => h.1
  · refine (Cert.ReferenceIdeal.Value.run_value m' g').mono fun r h c => ?_
    obtain ⟨h0, h1, h2, h3, h4, h5, h6, h7, h8, h9, h10⟩ := ha c
    exact ⟨(h.1 c).1.trans (value_eq m g m' hp c h0 h1 h2 h3 h4 h5 h6 h7 h8 h9 h10), (h.1 c).2⟩

theorem claim : Cert.Claim := ⟨Cert.Kernel.Gen.facts, Cert.KernelIdeal.Gen.facts, Cert.ReferenceIdeal.Gen.facts, Cert.Pre_domain.Gen.facts,
  fun m ρ _ => Cert.Kernel.Gen.frame m ρ, fun m ρ _ => Cert.KernelIdeal.Gen.frame m ρ, fun m ρ _ => Cert.KernelIdeal.Gen.frame m ρ,
  ref_frame, fun m ρ _ => ref_frame m ρ trivial, trivial, values⟩

end Cert.Proof

end
